-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![8, 128, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![8, 128, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S2x128x512 1 × IVec S512x512 1 × IVec S512x512 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512x512 .f32 := Host.absf main_arg2
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  (main_v2, main_v5, main_v8)
-- ==== Pre_finite_ReferenceIdeal.lean ====
abbrev S8x128x512 : Shape := ⟨3, ![8, 128, 512]⟩
abbrev S512x2048 : Shape := ⟨2, ![512, 2048]⟩
abbrev S2048x512 : Shape := ⟨2, ![2048, 512]⟩
abbrev S_ : Shape := ⟨0, ![]⟩

class Facts : Prop where
  bcast_S_S8x128x512 : S_.BroadcastsInDim S8x128x512 (![] : Fin 0 → Fin S8x128x512.rank)
  bcast_S_S512x2048 : S_.BroadcastsInDim S512x2048 (![] : Fin 0 → Fin S512x2048.rank)

variable [Facts]

def fn {F : FTy → Type} [FloatOps F] (main_arg0 : FVec F S8x128x512 .f32) (main_arg1 : FVec F S512x2048 .f32) (main_arg2 : FVec F S512x2048 .f32) (main_arg3 : FVec F S512x2048 .f32) (main_arg4 : FVec F S2048x512 .f32) : IVec S8x128x512 1 × IVec S512x2048 1 × IVec S512x2048 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S512x2048 .f32 := Host.absf main_arg2
  let main_cst_1 : FVec F S_ .f32 := constant S_ .f32 0x7F800000#32
  let main_v7 : FVec F S512x2048 .f32 := broadcastInDim S512x2048 ![] bcast_S_S512x2048 main_cst_1
  let main_v8 : IVec S512x2048 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S4x256x512 : Shape := ⟨3, ![4, 256, 512]⟩
abbrev S256x512 : Shape := ⟨2, ![256, 512]⟩
abbrev S3x256x512 : Shape := ⟨3, ![3, 256, 512]⟩
abbrev S3 : Shape := ⟨1, ![3]⟩
abbrev S_ : Shape := ⟨0, ![]⟩
abbrev S1x256x512 : Shape := ⟨3, ![1, 256, 512]⟩
abbrev S1 : Shape := ⟨1, ![1]⟩
abbrev S128x64 : Shape := ⟨2, ![128, 64]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S4x256x512, .bf16⟩
  | .local _ .vmem, ⟨7, _⟩ => ⟨S256x512, .bf16⟩
  | .local _ .vmem, ⟨8, _⟩ => ⟨S3x256x512, .bf16⟩
  | .local _ .vmem, ⟨9, _⟩ => ⟨S3x256x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v8 : BitVec 32 := Scalar.addi v2 c3_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v12 : BitVec 32 := Scalar.addi v2 c2_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v35 : BitVec 32 := Scalar.addi v2 c1_i32_26
  let c4_i32_27 : BitVec 32 := 4#32
  let v36 : BitVec 32 := Scalar.remsi v35 c4_i32_27
  let c1_i32_32 : BitVec 32 := 1#32
  let v37 : BitVec 32 := Scalar.muli v36 c1_i32_32
  let v38 : BitVec 32 := Scalar.addi c0_i32_33 v37
  v38.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v47 : BitVec 32 := Scalar.addi v2 c3_i32_38
  let c4_i32_39 : BitVec 32 := 4#32
  let v48 : BitVec 32 := Scalar.remsi v47 c4_i32_39
  let c1_i32_44 : BitVec 32 := 1#32
  let v49 : BitVec 32 := Scalar.muli v48 c1_i32_44
  let v50 : BitVec 32 := Scalar.addi c0_i32_45 v49
  v50.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v59 : BitVec 32 := Scalar.addi v2 c2_i32_50
  let c4_i32_51 : BitVec 32 := 4#32
  let v60 : BitVec 32 := Scalar.remsi v59 c4_i32_51
  let c1_i32_56 : BitVec 32 := 1#32
  let v61 : BitVec 32 := Scalar.muli v60 c1_i32_56
  let v62 : BitVec 32 := Scalar.addi c0_i32_57 v61
  v62.toNat
def k0_dev7 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_308 : BitVec 32 := 1#32
  let v775 : BitVec 32 := Scalar.subi v2 c1_i32_308
  let c4_i32_309 : BitVec 32 := 4#32
  let v776 : BitVec 32 := Scalar.addi v775 c4_i32_309
  let c4_i32_310 : BitVec 32 := 4#32
  let v777 : BitVec 32 := Scalar.remsi v776 c4_i32_310
  let c1_i32_315 : BitVec 32 := 1#32
  let v778 : BitVec 32 := Scalar.muli v777 c1_i32_315
  let v779 : BitVec 32 := Scalar.addi c0_i32_316 v778
  v779.toNat
def k0_dev8 (d0 : Dev nD) : Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_453 : BitVec 32 := 3#32
  let v1146 : BitVec 32 := Scalar.subi v2 c3_i32_453
  let c4_i32_454 : BitVec 32 := 4#32
  let v1147 : BitVec 32 := Scalar.addi v1146 c4_i32_454
  let c4_i32_455 : BitVec 32 := 4#32
  let v1148 : BitVec 32 := Scalar.remsi v1147 c4_i32_455
  let c1_i32_460 : BitVec 32 := 1#32
  let v1149 : BitVec 32 := Scalar.muli v1148 c1_i32_460
  let v1150 : BitVec 32 := Scalar.addi c0_i32_461 v1149
  v1150.toNat
def k0_dev9 (d0 : Dev nD) : Nat :=
  let c0_i32_608 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_600 : BitVec 32 := 2#32
  let v1517 : BitVec 32 := Scalar.subi v2 c2_i32_600
  let c4_i32_601 : BitVec 32 := 4#32
  let v1518 : BitVec 32 := Scalar.addi v1517 c4_i32_601
  let c4_i32_602 : BitVec 32 := 4#32
  let v1519 : BitVec 32 := Scalar.remsi v1518 c4_i32_602
  let c1_i32_607 : BitVec 32 := 1#32
  let v1520 : BitVec 32 := Scalar.muli v1519 c1_i32_607
  let v1521 : BitVec 32 := Scalar.addi c0_i32_608 v1520
  v1521.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x128x512 : Shape := ⟨3, ![8, 128, 512]⟩
abbrev S512x2048 : Shape := ⟨2, ![512, 2048]⟩
abbrev S2048x512 : Shape := ⟨2, ![2048, 512]⟩
abbrev S8x128x2048 : Shape := ⟨3, ![8, 128, 2048]⟩
abbrev S8x128x32x64 : Shape := ⟨4, ![8, 128, 32, 64]⟩
abbrev S_ : Shape := ⟨0, ![]⟩
abbrev S8x32x128x1 : Shape := ⟨4, ![8, 32, 128, 1]⟩
abbrev S8x32x128x128 : Shape := ⟨4, ![8, 32, 128, 128]⟩
abbrev S8x32x128 : Shape := ⟨3, ![8, 32, 128]⟩
abbrev S8x128x32x1 : Shape := ⟨4, ![8, 128, 32, 1]⟩
abbrev S8x32x64x128 : Shape := ⟨4, ![8, 32, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S8x128x2048, .f32⟩
  | .hbm, ⟨6, _⟩ => ⟨S8x128x32x64, .f32⟩
  | .hbm, ⟨7, _⟩ => ⟨S8x128x2048, .f32⟩
  | .hbm, ⟨8, _⟩ => ⟨S8x128x32x64, .f32⟩
  | .hbm, ⟨9, _⟩ => ⟨S8x128x2048, .f32⟩
  | .hbm, ⟨10, _⟩ => ⟨S8x128x32x64, .f32⟩
  | .hbm, ⟨11, _⟩ => ⟨S_, .f32⟩
  | .hbm, ⟨12, _⟩ => ⟨S8x128x32x64, .f32⟩
  | .hbm, ⟨13, _⟩ => ⟨S_, .f32⟩
  | .hbm, ⟨14, _⟩ => ⟨S8x32x128x1, .f32⟩
  | .hbm, ⟨15, _⟩ => ⟨S_, .f32⟩
  | .hbm, ⟨16, _⟩ => ⟨S8x32x128x1, .f32⟩
  | .hbm, ⟨17, _⟩ => ⟨S8x32x128x128, .f32⟩
  | .hbm, ⟨18, _⟩ => ⟨S_, .f32⟩
  | .hbm, ⟨19, _⟩ => ⟨S8x32x128x128, .f32⟩
  | .hbm, ⟨20, _⟩ => ⟨S8x32x128x128, .f32⟩
  | .hbm, ⟨21, _⟩ => ⟨S_, .f32⟩
  | .hbm, ⟨22, _⟩ => ⟨S8x32x128, .f32⟩
  | .hbm, ⟨23, _⟩ => ⟨S8x32x128x1, .f32⟩
  | .hbm, ⟨24, _⟩ => ⟨S8x32x128x1, .f32⟩
  | .hbm, ⟨25, _⟩ => ⟨S8x32x128x1, .f32⟩
  | .hbm, ⟨26, _⟩ => ⟨S8x32x128x1, .f32⟩
  | .hbm, ⟨27, _⟩ => ⟨S8x32x128x128, .f32⟩
  | .hbm, ⟨28, _⟩ => ⟨S8x32x128x128, .f32⟩
  | .hbm, ⟨29, _⟩ => ⟨S8x32x128x128, .f32⟩
  | .hbm, ⟨30, _⟩ => ⟨S8x32x128x1, .f32⟩
  | .hbm, ⟨31, _⟩ => ⟨S_, .f32⟩
  | .hbm, ⟨32, _⟩ => ⟨S8x32x128, .f32⟩
  | .hbm, ⟨33, _⟩ => ⟨S8x32x128x1, .f32⟩
  | .hbm, ⟨34, _⟩ => ⟨S8x32x128x1, .f32⟩
  | .hbm, ⟨35, _⟩ => ⟨S8x128x32x1, .f32⟩
  | .hbm, ⟨36, _⟩ => ⟨S8x128x32x64, .f32⟩
  | .hbm, ⟨37, _⟩ => ⟨S8x128x32x64, .f32⟩
  | .hbm, ⟨38, _⟩ => ⟨S8x32x64x128, .f32⟩
  | .hbm, ⟨39, _⟩ => ⟨S8x128x32x64, .f32⟩
  | .hbm, ⟨40, _⟩ => ⟨S8x128x32x64, .f32⟩
  | .hbm, ⟨41, _⟩ => ⟨S8x128x32x1, .f32⟩
  | .hbm, ⟨42, _⟩ => ⟨S8x128x32x64, .f32⟩
  | .hbm, ⟨43, _⟩ => ⟨S8x128x32x64, .f32⟩
  | .hbm, ⟨44, _⟩ => ⟨S8x128x2048, .f32⟩
  | .hbm, ⟨45, _⟩ => ⟨S8x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Body.lean ====
/-
The kernel's body written with loops: one head's block, the sixteen blocks of a partial, the transfers by their
distance. It is the printed body by definitional unfolding, so what is proved of it is proved of the kernel.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KProof

open Cert.KernelIdeal Cert.KernelIdeal.Gen

open Idealize.ShloMosaic
open Idealize.ShloMosaic.TcCoe
open Idealize.SL.Sem

variable {F : FTy → Type} [FloatOps F]

/-! ## The values -/

/-- A projection `x · w` of a slot of tokens, rounded to bf16. -/
def proj (w : FVec F S512x512 .bf16) (x : FVec F S256x512 .bf16) : FVec F S256x512 .bf16 :=
  truncf .bf16 (matmul dot_S256x512_S512x512_S256x512_1_0_0_1_n_n none x w (constant S256x512 .f32 0x00000000#32)) bitsLt_bf16_f32

/-- Where block `(b, h)` begins: row `128 b`, column `64 h`. -/
abbrev org (p : Fin 2 × Fin 8) : Fin 2 → ℕ := ![128 * p.1.val, 64 * p.2.val]

theorem org_inb (p : Fin 2 × Fin 8) : ∀ a, org p a + S128x64.size a ≤ S256x512.size a := by
  revert p; decide

theorem org_slices (p : Fin 2 × Fin 8) : S256x512.Slices (org p) S128x64 := by
  obtain ⟨b, h⟩ := p
  fin_cases b <;> fin_cases h
  · exact slices_S256x512_o0_0_S128x64
  · exact slices_S256x512_o0_64_S128x64
  · exact slices_S256x512_o0_128_S128x64
  · exact slices_S256x512_o0_192_S128x64
  · exact slices_S256x512_o0_256_S128x64
  · exact slices_S256x512_o0_320_S128x64
  · exact slices_S256x512_o0_384_S128x64
  · exact slices_S256x512_o0_448_S128x64
  · exact slices_S256x512_o128_0_S128x64
  · exact slices_S256x512_o128_64_S128x64
  · exact slices_S256x512_o128_128_S128x64
  · exact slices_S256x512_o128_192_S128x64
  · exact slices_S256x512_o128_256_S128x64
  · exact slices_S256x512_o128_320_S128x64
  · exact slices_S256x512_o128_384_S128x64
  · exact slices_S256x512_o128_448_S128x64

/-- The rectangle of block `(b, h)`. -/
abbrev orgRect (p : Fin 2 × Fin 8) : Rect S256x512 := Rect.unit (s := S256x512) (org p) S128x64.size (org_inb p)

theorem org_packed (p : Fin 2 × Fin 8) : (orgRect p).PackedRows (EltTy.packing .bf16) := by
  obtain ⟨b, h⟩ := p
  fin_cases b <;> fin_cases h
  · exact packedbf16_S256x512_S128x64_0_0
  · exact packedbf16_S256x512_S128x64_0_64
  · exact packedbf16_S256x512_S128x64_0_128
  · exact packedbf16_S256x512_S128x64_0_192
  · exact packedbf16_S256x512_S128x64_0_256
  · exact packedbf16_S256x512_S128x64_0_320
  · exact packedbf16_S256x512_S128x64_0_384
  · exact packedbf16_S256x512_S128x64_0_448
  · exact packedbf16_S256x512_S128x64_128_0
  · exact packedbf16_S256x512_S128x64_128_64
  · exact packedbf16_S256x512_S128x64_128_128
  · exact packedbf16_S256x512_S128x64_128_192
  · exact packedbf16_S256x512_S128x64_128_256
  · exact packedbf16_S256x512_S128x64_128_320
  · exact packedbf16_S256x512_S128x64_128_384
  · exact packedbf16_S256x512_S128x64_128_448

/-- The scaled scores of one head of one sequence. -/
def scores (q k : FVec F S128x64 .bf16) : FVec F S128x128 .f32 :=
  mulf (matmul dot_S128x64_S128x64_S128x128_1_1_0_0_n_n none q k (constant S128x128 .f32 0x00000000#32))
    (broadcast S128x128 (Scalar.ofBits .f32 0x3E000000#32))

/-- Each score's exponential, its row's maximum taken off first. -/
def expo (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- Each row divided by its sum, rounded to bf16. -/
def prob (e : FVec F S128x128 .f32) : FVec F S128x128 .bf16 :=
  truncf .bf16 (divf e (broadcastTo S128x128 (shapeCast S128x1 (multiReduction .add [1] S128 e 0x00000000#32 reduces_S128x128_S128 (.inl rfl) rfl)
    shapeCasts_S128_S128x1) broadcasts_S128x1_S128x128)) bitsLt_bf16_f32

/-- One head of one sequence: the softmax of the scores, times the values, rounded to bf16. -/
def headOf (q k v : FVec F S128x64 .bf16) : FVec F S128x64 .bf16 :=
  shapeCast S128x64 (truncf .bf16 (matmul dot_S128x128_S128x64_S128x64_1_0_0_1_n_n none (prob (expo (scores q k))) v
    (constant S128x64 .f32 0x00000000#32)) bitsLt_bf16_f32) shapeCasts_S128x64_S128x64

/-- The block `(b, h)` of the attention of `q`, `k`, `v`. -/
def head (q k v : FVec F S256x512 .bf16) (p : Fin 2 × Fin 8) : FVec F S128x64 .bf16 :=
  headOf (extractStridedSlice S128x64 (org p) q (org_slices p)) (extractStridedSlice S128x64 (org p) k (org_slices p))
    (extractStridedSlice S128x64 (org p) v (org_slices p))

/-- The output projection, in f32. -/
def oproj (wo : FVec F S512x512 .bf16) (o : FVec F S256x512 .bf16) : FVec F S256x512 .f32 :=
  matmul dot_S256x512_S512x512_S256x512_1_0_0_1_n_n none o wo (constant S256x512 .f32 0x00000000#32)

/-- A slot's contents as a plane, and a plane as a slot's contents. -/
def flat (x : Vec F S1x256x512 .bf16) : FVec F S256x512 .bf16 := shapeCast S256x512 x shapeCasts_S1x256x512_S256x512
def lift3 (x : FVec F S256x512 .bf16) : FVec F S1x256x512 .bf16 := shapeCast S1x256x512 x shapeCasts_S256x512_S1x256x512

/-- A weight matrix rounded to bf16. -/
def wt (w : Vec F S512x512 .f32) : FVec F S512x512 .bf16 := truncf .bf16 (shapeCast S512x512 w shapeCasts_S512x512_S512x512) bitsLt_bf16_f32

/-- The sixteen blocks in the order the kernel takes them. -/
def allBlocks : List (Fin 2 × Fin 8) :=
  [(0, 0), (0, 1), (0, 2), (0, 3), (0, 4), (0, 5), (0, 6), (0, 7), (1, 0), (1, 1), (1, 2), (1, 3), (1, 4), (1, 5), (1, 6), (1, 7)]

/-! ## The slots and semaphores by number -/

abbrev slot4 (j : Fin 4) : Fin 3 → ℕ := ![j.val, 0, 0]
theorem slot4_inb (j : Fin 4) : ∀ a, slot4 j a + S1x256x512.size a ≤ S4x256x512.size a := by revert j; decide
abbrev slot4Rect (j : Fin 4) : Rect S4x256x512 := Rect.unit (s := S4x256x512) (slot4 j) S1x256x512.size (slot4_inb j)
theorem slot4_words (j : Fin 4) : (slot4Rect j).WholeWords (EltTy.packing .bf16) := by
  fin_cases j
  · exact wordsbf16_S4x256x512_S1x256x512_0_0_0
  · exact wordsbf16_S4x256x512_S1x256x512_1_0_0
  · exact wordsbf16_S4x256x512_S1x256x512_2_0_0
  · exact wordsbf16_S4x256x512_S1x256x512_3_0_0

abbrev slot3 (j : Fin 3) : Fin 3 → ℕ := ![j.val, 0, 0]
theorem slot3_inb (j : Fin 3) : ∀ a, slot3 j a + S1x256x512.size a ≤ S3x256x512.size a := by revert j; decide
abbrev slot3Rect (j : Fin 3) : Rect S3x256x512 := Rect.unit (s := S3x256x512) (slot3 j) S1x256x512.size (slot3_inb j)
theorem slot3_words (j : Fin 3) : (slot3Rect j).WholeWords (EltTy.packing .bf16) := by
  fin_cases j
  · exact wordsbf16_S3x256x512_S1x256x512_0_0_0
  · exact wordsbf16_S3x256x512_S1x256x512_1_0_0
  · exact wordsbf16_S3x256x512_S1x256x512_2_0_0
theorem slot3_packed (j : Fin 3) : (slot3Rect j).PackedRows (EltTy.packing .bf16) := by
  fin_cases j
  · exact packedbf16_S3x256x512_S1x256x512_0_0_0
  · exact packedbf16_S3x256x512_S1x256x512_1_0_0
  · exact packedbf16_S3x256x512_S1x256x512_2_0_0

theorem sem3_inb (k : Fin 3) : ∀ a, (![k.val] : Fin 1 → ℕ) a + S1.size a ≤ S3.size a := by revert k; decide
/-- Semaphore `k` of an array of three. -/
abbrev semAt (a : DmaSems sig S3) (k : Fin 3) : DmaSem sig :=
  ((a.slice (Rect.unit (s := S3) ![k.val] S1.size (sem3_inb k))).squeeze S_ squeezes_S1_S_).sem

/-- Slot `j` of a memref of four slots, and of one of three. -/
abbrev slotOf4 (a : Memref sig .tc .vmem S4x256x512 .bf16) (j : Fin 4) : Memref sig .tc .vmem S256x512 .bf16 :=
  (a.slice (slot4Rect j) (fun _ => rfl)).squeeze S256x512 squeezes_S1x256x512_S256x512
abbrev slotOf3 (a : Memref sig .tc .vmem S3x256x512 .bf16) (j : Fin 3) : Memref sig .tc .vmem S256x512 .bf16 :=
  (a.slice (slot3Rect j) (fun _ => rfl)).squeeze S256x512 squeezes_S1x256x512_S256x512

/-! ## The program -/

section Prog

variable (arg0 : Memref sig .tc .vmem S2x128x512 .f32) (harg0 : arg0.IsWhole) (arg1 : Memref sig .tc .vmem S512x512 .f32) (harg1 : arg1.IsWhole)
  (arg2 : Memref sig .tc .vmem S512x512 .f32) (harg2 : arg2.IsWhole) (arg3 : Memref sig .tc .vmem S512x512 .f32) (harg3 : arg3.IsWhole)
  (arg4 : Memref sig .tc .vmem S512x512 .f32) (harg4 : arg4.IsWhole) (arg5 : Memref sig .tc .vmem S2x128x512 .f32) (harg5 : arg5.IsWhole)
  (arg6 : Memref sig .tc .vmem S4x256x512 .bf16) (harg6 : arg6.IsWhole) (arg7 : Memref sig .tc .vmem S256x512 .bf16) (harg7 : arg7.IsWhole)
  (arg8 : Memref sig .tc .vmem S3x256x512 .bf16) (harg8 : arg8.IsWhole) (arg9 : Memref sig .tc .vmem S3x256x512 .bf16) (harg9 : arg9.IsWhole)
  (arg10 arg11 arg12 arg13 : DmaSems sig S3)

/-- A program of one device. -/
abbrev Code (F : FTy → Type) [FloatOps F] (α : Type) := Prog (TpuEff nD τ sig (Elt F) Λ₀ .tc) α

theorem words4 (arg6 : Memref sig .tc .vmem S4x256x512 .bf16) (harg6 : arg6.IsWhole) (j : Fin 4) : (slotOf4 arg6 j).view.WordExact :=
  ((harg6.wordExact_slice rfl _ (slot4_words j)).reshape _ _)
theorem words3 (arg9 : Memref sig .tc .vmem S3x256x512 .bf16) (harg9 : arg9.IsWhole) (j : Fin 3) : (slotOf3 arg9 j).view.WordExact :=
  ((harg9.wordExact_slice rfl _ (slot3_words j)).reshape _ _)

/-- The load of a weight matrix. -/
def wload (a : Memref sig .tc .vmem S512x512 .f32) : Code F (Vec F S512x512 .f32) :=
  Prog.lift (.load a (Rect.unit (s := S512x512) ![0, 0] S512x512.size inb_S512x512_S512x512_0_0).toLoadRect (View.loadsAt_vmem h_S512x512))

/-- The load of slot `j` of the gathered tokens. -/
def xload (j : Fin 4) : Code F (Vec F S1x256x512 .bf16) :=
  Prog.lift (.load arg6 (slot4Rect j).toLoadRect (View.loadsAt_vmem h_S1x256x512))
/-- The store of the device's tokens into slot `0`. -/
def xstore (w : FVec F S1x256x512 .bf16) : Code F PUnit :=
  Prog.lift (.store arg6 (slot4Rect 0) w Finset.univ (View.stores_vmem h_S1x256x512 (harg6.storeExact_slice rfl _ packedbf16_S4x256x512_S1x256x512_0_0_0) (fun _ => rfl)) (.inl rfl))
/-- The load of slot `k` of a buffer of three. -/
def sload (a : Memref sig .tc .vmem S3x256x512 .bf16) (k : Fin 3) : Code F (Vec F S1x256x512 .bf16) :=
  Prog.lift (.load a (slot3Rect k).toLoadRect (View.loadsAt_vmem h_S1x256x512))
/-- The store of a partial product into slot `k` of the send buffer. -/
def sstore (k : Fin 3) (w : FVec F S1x256x512 .bf16) : Code F PUnit :=
  Prog.lift (.store arg8 (slot3Rect k) w Finset.univ (View.stores_vmem h_S1x256x512 (harg8.storeExact_slice rfl _ (slot3_packed k)) (fun _ => rfl)) (.inl rfl))

/-- The blocks of a list, each stored where it belongs (the block there is loaded first and not used). -/
def blocks (q k v : FVec F S256x512 .bf16) : List (Fin 2 × Fin 8) → Code F PUnit
  | [] => pure ⟨⟩
  | p :: ps => do
    let _ : Vec F S128x64 .bf16 ← Prog.lift (.load arg7 (orgRect p).toLoadRect (View.loadsAt_vmem h_S128x64))
    Prog.lift (.store arg7 (orgRect p) (head q k v p) Finset.univ
      (View.stores_vmem h_S128x64 (harg7.storeExact_slice rfl _ (org_packed p)) (fun _ => rfl)) (.inl rfl))
    blocks q k v ps

/-- The partial of slot `j` up to its output projection: the slot loaded and projected, the sixteen blocks stored,
    the whole loaded back. -/
def attnAt (wq wk wv : FVec F S512x512 .bf16) (j : Fin 4) : Code F (Vec F S256x512 .bf16) := do
  let x ← xload arg6 j
  blocks arg7 harg7 (proj wq (flat x)) (proj wk (flat x)) (proj wv (flat x)) allBlocks
  Prog.lift (.load arg7 (Rect.unit (s := S256x512) ![0, 0] S256x512.size inb_S256x512_S256x512_0_0).toLoadRect (View.loadsAt_vmem h_S256x512))

/-- The gather transfer to `e` into its slot `k + 1`. -/
def gsend (k : Fin 3) (e : Dev nD) : Code F PUnit :=
  Prog.lift (.enqueueDma (slotOf4 arg6 0) (.remote (Dev.tc e) (slotOf4 arg6 k.succ) (.dma (semAt arg10 k))) (.dma (semAt arg11 k))
    (words4 arg6 harg6 0) (words4 arg6 harg6 k.succ) ⟨⟨rfl, Or.inl rfl⟩, trivial⟩)

/-- The scatter transfer to `e` into its slot `k`. -/
def psend (k : Fin 3) (e : Dev nD) : Code F PUnit :=
  Prog.lift (.enqueueDma (slotOf3 arg8 k) (.remote (Dev.tc e) (slotOf3 arg9 k) (.dma (semAt arg12 k))) (.dma (semAt arg13 k))
    (words3 arg8 harg8 k) (words3 arg9 harg9 k) ⟨⟨rfl, Or.inl rfl⟩, trivial⟩)

/-- The wait for the tokens of slot `k + 1`, and for the partial of slot `k`. -/
def gwait (k : Fin 3) : Code F PUnit :=
  Prog.lift (.waitDma2 (semAt arg11 k) (slotOf4 arg6 0) (slotOf4 arg6 k.succ) (words4 arg6 harg6 0) (words4 arg6 harg6 k.succ))
def pwait (k : Fin 3) : Code F PUnit :=
  Prog.lift (.waitDma2 (semAt arg13 k) (slotOf3 arg8 k) (slotOf3 arg9 k) (words3 arg8 harg8 k) (words3 arg9 harg9 k))
/-- The waits for the transfers sent. -/
def gdone (k : Fin 3) : Code F PUnit :=
  Prog.lift (.waitDma2 (semAt arg10 k) (slotOf4 arg6 k.succ) (slotOf4 arg6 0) (words4 arg6 harg6 k.succ) (words4 arg6 harg6 0))
def pdone (k : Fin 3) : Code F PUnit :=
  Prog.lift (.waitDma2 (semAt arg12 k) (slotOf3 arg9 k) (slotOf3 arg8 k) (words3 arg9 harg9 k) (words3 arg8 harg8 k))

/-- The other device's tokens of distance `k + 1`: waited for, attended to, the partial stored and sent to `e`. -/
def turn (wq wk wv wo : FVec F S512x512 .bf16) (k : Fin 3) (e : Dev nD) : Code F PUnit := do
  gwait arg6 harg6 arg11 k
  let o ← attnAt arg6 arg7 harg7 wq wk wv k.succ
  let _ ← sload arg8 k
  sstore arg8 harg8 k (lift3 (truncf .bf16 (oproj wo o) bitsLt_bf16_f32))
  psend arg8 harg8 arg9 harg9 arg12 arg13 k e

/-- The partial received in slot `k`, added. -/
def addTo (p : FVec F S256x512 .f32) (r : Vec F S1x256x512 .bf16) : FVec F S256x512 .f32 := addf p (extf .f32 (flat r) bitsLt_bf16_f32)

/-- A device's tokens as a plane rounded to bf16. -/
def tokens (x : Vec F S2x128x512 .f32) : FVec F S256x512 .bf16 :=
  truncf .bf16 (shapeCast S256x512 (shapeCast S2x128x512 x shapeCasts_S2x128x512_S2x128x512) shapeCasts_S2x128x512_S256x512) bitsLt_bf16_f32

/-- The kernel's body. -/
def body : Code F PUnit := do
  let d0 : Dev nD ← Prog.lift .deviceId
  let bar : Sems sig S_ := SemArray.scalar (sig.barrier 0 rfl)
  semSignalWord (⟨k0_dev1 d0, k0_dev1_lt d0⟩ : Dev nD) bar.sem 1#32
  semSignalWord (⟨k0_dev2 d0, k0_dev2_lt d0⟩ : Dev nD) bar.sem 1#32
  semSignalWord (⟨k0_dev3 d0, k0_dev3_lt d0⟩ : Dev nD) bar.sem 1#32
  semWaitWord bar.sem 3#32
  let wq ← wload arg1
  let wk ← wload arg3
  let wv ← wload arg4
  let wo ← wload arg2
  let x : Vec F S2x128x512 .f32 ← Prog.lift (.load arg0 (Rect.unit (s := S2x128x512) ![0, 0, 0] S2x128x512.size inb_S2x128x512_S2x128x512_0_0_0).toLoadRect (View.loadsAt_vmem h_S2x128x512))
  let _ ← xload arg6 0
  xstore arg6 harg6 (lift3 (tokens x))
  gsend arg6 harg6 arg10 arg11 0 ⟨k0_dev4 d0, k0_dev4_lt d0⟩
  gsend arg6 harg6 arg10 arg11 2 ⟨k0_dev5 d0, k0_dev5_lt d0⟩
  gsend arg6 harg6 arg10 arg11 1 ⟨k0_dev6 d0, k0_dev6_lt d0⟩
  let o ← attnAt arg6 arg7 harg7 (wt wq) (wt wk) (wt wv) 0
  turn arg6 harg6 arg7 harg7 arg8 harg8 arg9 harg9 arg11 arg12 arg13 (wt wq) (wt wk) (wt wv) (wt wo) 0 ⟨k0_dev7 d0, k0_dev7_lt d0⟩
  turn arg6 harg6 arg7 harg7 arg8 harg8 arg9 harg9 arg11 arg12 arg13 (wt wq) (wt wk) (wt wv) (wt wo) 2 ⟨k0_dev8 d0, k0_dev8_lt d0⟩
  turn arg6 harg6 arg7 harg7 arg8 harg8 arg9 harg9 arg11 arg12 arg13 (wt wq) (wt wk) (wt wv) (wt wo) 1 ⟨k0_dev9 d0, k0_dev9_lt d0⟩
  pwait arg8 harg8 arg9 harg9 arg13 0
  let r0 ← sload arg9 0
  pwait arg8 harg8 arg9 harg9 arg13 2
  let r2 ← sload arg9 2
  pwait arg8 harg8 arg9 harg9 arg13 1
  let r1 ← sload arg9 1
  let _ : Vec F S2x128x512 .f32 ← Prog.lift (.load arg5 (Rect.unit (s := S2x128x512) ![0, 0, 0] S2x128x512.size inb_S2x128x512_S2x128x512_0_0_0).toLoadRect (View.loadsAt_vmem h_S2x128x512))
  Prog.lift (.store arg5 (Rect.unit (s := S2x128x512) ![0, 0, 0] S2x128x512.size inb_S2x128x512_S2x128x512_0_0_0)
    (shapeCast S2x128x512 (addTo (addTo (addTo (oproj (wt wo) o) r0) r2) r1) shapeCasts_S256x512_S2x128x512) Finset.univ (View.stores_vmem_bits_univ h_S2x128x512 rfl) (.inl rfl))
  gdone arg6 harg6 arg10 0
  pdone arg8 harg8 arg9 harg9 arg12 0
  gdone arg6 harg6 arg10 2
  pdone arg8 harg8 arg9 harg9 arg12 2
  gdone arg6 harg6 arg10 1
  pdone arg8 harg8 arg9 harg9 arg12 1

set_option maxRecDepth 100000 in
set_option maxHeartbeats 0 in
/-- The printed body is this one. -/
theorem body_eq : cc0_body (F := F) arg0 harg0 arg1 harg1 arg2 harg2 arg3 harg3 arg4 harg4 arg5 harg5 arg6 harg6 arg7 harg7 arg8 harg8 arg9 harg9 arg10 arg11 arg12 arg13
    = body arg0 arg1 arg2 arg3 arg4 arg5 arg6 harg6 arg7 harg7 arg8 harg8 arg9 harg9 arg10 arg11 arg12 arg13 := by
  chain_rfl

end Prog

end Cert.KProof
-- ==== Proof.Protocol.lean ====
/-
The exchange as rounds of one: the cells of a device (its barrier semaphore and twelve transfer semaphores), who pays
each and what the payment hands over, what a device owes when the kernel starts, and the waits it may make.

A device's place on the mesh is its number. `up c k` is the device `k + 1` above it and `dn c k` the one `k + 1`
below it, around. A device sends its tokens up and the partial products it computes for others down.
-/
module

public import proofs.«01_k».proof.Proof.Body

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

set_option backward.proofsInPublic true in
def up (c : Dev nD) (k : Fin 3) : Dev nD := ⟨(c.val + (k.val + 1)) % 4, Nat.mod_lt _ (by decide)⟩
set_option backward.proofsInPublic true in
def dn (c : Dev nD) (k : Fin 3) : Dev nD := ⟨(c.val + (3 - k.val)) % 4, Nat.mod_lt _ (by decide)⟩

theorem dn_up (c : Dev nD) (k : Fin 3) : dn (up c k) k = c := by revert c k; decide
theorem up_dn (c : Dev nD) (k : Fin 3) : up (dn c k) k = c := by revert c k; decide
theorem dn_rev (c : Dev nD) (k : Fin 3) : dn c k.rev = up c k := by revert c k; decide
theorem up_rev (c : Dev nD) (k : Fin 3) : up c k.rev = dn c k := by revert c k; decide

def shift (k : Fin 3) : Dev nD ≃ Dev nD := ⟨fun c => up c k, fun c => dn c k, fun c => dn_up c k, fun c => up_dn c k⟩

theorem dev1_eq (c : Dev nD) : (⟨k0_dev1 c, k0_dev1_lt c⟩ : Dev nD) = up c 0 := Fin.ext ((k0_dev1_eq c).trans (by revert c; decide))
theorem dev2_eq (c : Dev nD) : (⟨k0_dev2 c, k0_dev2_lt c⟩ : Dev nD) = up c 2 := Fin.ext ((k0_dev2_eq c).trans (by revert c; decide))
theorem dev3_eq (c : Dev nD) : (⟨k0_dev3 c, k0_dev3_lt c⟩ : Dev nD) = up c 1 := Fin.ext ((k0_dev3_eq c).trans (by revert c; decide))
theorem dev4_eq (c : Dev nD) : (⟨k0_dev4 c, k0_dev4_lt c⟩ : Dev nD) = up c 0 := Fin.ext ((k0_dev4_eq c).trans (by revert c; decide))
theorem dev5_eq (c : Dev nD) : (⟨k0_dev5 c, k0_dev5_lt c⟩ : Dev nD) = up c 2 := Fin.ext ((k0_dev5_eq c).trans (by revert c; decide))
theorem dev6_eq (c : Dev nD) : (⟨k0_dev6 c, k0_dev6_lt c⟩ : Dev nD) = up c 1 := Fin.ext ((k0_dev6_eq c).trans (by revert c; decide))
theorem dev7_eq (c : Dev nD) : (⟨k0_dev7 c, k0_dev7_lt c⟩ : Dev nD) = dn c 0 := Fin.ext ((k0_dev7_eq c).trans (by revert c; decide))
theorem dev8_eq (c : Dev nD) : (⟨k0_dev8 c, k0_dev8_lt c⟩ : Dev nD) = dn c 2 := Fin.ext ((k0_dev8_eq c).trans (by revert c; decide))
theorem dev9_eq (c : Dev nD) : (⟨k0_dev9 c, k0_dev9_lt c⟩ : Dev nD) = dn c 1 := Fin.ext ((k0_dev9_eq c).trans (by revert c; decide))

/-! ## Memrefs and cells -/

abbrev comm : Memref sig .tc .vmem S4x256x512 .bf16 := Memref.whole cc0_scratch0
abbrev oM : Memref sig .tc .vmem S256x512 .bf16 := Memref.whole cc0_scratch1
abbrev snd : Memref sig .tc .vmem S3x256x512 .bf16 := Memref.whole cc0_scratch2
abbrev rcv : Memref sig .tc .vmem S3x256x512 .bf16 := Memref.whole cc0_scratch3

abbrev cslot (j : Fin 4) : Memref sig .tc .vmem S256x512 .bf16 := slotOf4 comm j
abbrev sslot (k : Fin 3) : Memref sig .tc .vmem S256x512 .bf16 := slotOf3 snd k
abbrev rslot (k : Fin 3) : Memref sig .tc .vmem S256x512 .bf16 := slotOf3 rcv k

/-- The runtime's barrier semaphore, and the kernel's four arrays of three: tokens sent, tokens received, partials sent,
    partials received. -/
abbrev barS : Sem sig := (SemArray.scalar (sig.barrier 0 rfl) : Sems sig S_).sem
abbrev arr : Fin 4 → DmaSems sig S3 := fun | 0 => cc0_scratch4 | 1 => cc0_scratch5 | 2 => cc0_scratch6 | 3 => cc0_scratch7
abbrev xsem (x : Fin 4 × Fin 3) : SemLoc sig := .dma (semAt (arr x.1) x.2)
abbrev csem : Option (Fin 4 × Fin 3) → SemLoc sig := fun | none => .reg barS | some x => xsem x
abbrev kcell (ck : Dev nD × Option (Fin 4 × Fin 3)) : GSem nD τ sig := ((ck.1 : Thread nD τ), csem ck.2)
abbrev barCell (c : Dev nD) : GSem nD τ sig := kcell (c, none)
abbrev xcell (c : Dev nD) (x : Fin 4 × Fin 3) : GSem nD τ sig := kcell (c, some x)

theorem ownSemFacts : Pipeline.OwnSemFacts cfg0.spec xsem := by decide
theorem xsem_inj : Function.Injective xsem := ownSemFacts.inj
theorem xsem_ne_bar (x : Fin 4 × Fin 3) : xsem x ≠ .reg barS := fun h => by cases h

/-- The credit of a slot's transfer. -/
abbrev N : ℕ := (cslot 0).view.dmaCredit
theorem N_pos : 0 < N := View.dmaCredit_pos _ (by decide)

/-! ## Contents -/

/-- Device `c`'s arguments in staging. -/
def stgx (c : Dev nD) : (cc0_stg0_0 : Ref sig .tc).ty.Contents (Elt F) :=
  (win0_0.blk (0 : Fin 1)).view.read (Elt F) ((s₀ m ρ).mem ((c : Thread nD τ).loc main_arg0))
def stgq (c : Dev nD) : (cc0_stg1_0 : Ref sig .tc).ty.Contents (Elt F) :=
  (win0_1.blk (0 : Fin 1)).view.read (Elt F) ((s₀ m ρ).mem ((c : Thread nD τ).loc main_arg1))
def stgo (c : Dev nD) : (cc0_stg2_0 : Ref sig .tc).ty.Contents (Elt F) :=
  (win0_2.blk (0 : Fin 1)).view.read (Elt F) ((s₀ m ρ).mem ((c : Thread nD τ).loc main_arg4))
def stgk (c : Dev nD) : (cc0_stg3_0 : Ref sig .tc).ty.Contents (Elt F) :=
  (win0_3.blk (0 : Fin 1)).view.read (Elt F) ((s₀ m ρ).mem ((c : Thread nD τ).loc main_arg2))
def stgv (c : Dev nD) : (cc0_stg4_0 : Ref sig .tc).ty.Contents (Elt F) :=
  (win0_4.blk (0 : Fin 1)).view.read (Elt F) ((s₀ m ρ).mem ((c : Thread nD τ).loc main_arg3))

/-- The attention of `q`, `k`, `v`: at row `i`, column `j` the entry of the block it lies in. -/
def attn (q k v : FVec F S256x512 .bf16) : FVec F S256x512 .bf16 := fun i =>
  head q k v (⟨(i 0).val / 128, (Nat.div_lt_iff_lt_mul (by decide)).mpr (i 0).isLt⟩, ⟨(i 1).val / 64, (Nat.div_lt_iff_lt_mul (by decide)).mpr (i 1).isLt⟩)
    (Fin.cons ⟨(i 0).val % 128, Nat.mod_lt _ (by decide)⟩ (Fin.cons ⟨(i 1).val % 64, Nat.mod_lt _ (by decide)⟩ fun a => a.elim0))

/-- Device `c`'s tokens; -/
def xb (c : Dev nD) : FVec F S256x512 .bf16 := tokens (stgx m ρ c)
/-- the attention of device `c`'s heads on device `e`'s tokens, -/
def att (c e : Dev nD) : FVec F S256x512 .bf16 :=
  attn (proj (wt (stgq m ρ c)) (xb m ρ e)) (proj (wt (stgk m ρ c)) (xb m ρ e)) (proj (wt (stgv m ρ c)) (xb m ρ e))
/-- its output projection, -/
def full (c e : Dev nD) : FVec F S256x512 .f32 := oproj (wt (stgo m ρ c)) (att m ρ c e)
/-- and that rounded to bf16, which is what `c` sends `e`. -/
def part (c e : Dev nD) : FVec F S256x512 .bf16 := truncf .bf16 (full m ρ c e) bitsLt_bf16_f32

/-- The kernel's result on device `c`: its own partial and those of the devices above it. -/
def outAt (c : Dev nD) : (cc0_stg5_0 : Ref sig .tc).ty.Contents (Elt F) :=
  shapeCast S2x128x512 (addTo (addTo (addTo (full m ρ c c) (lift3 (part m ρ (up c 0) c))) (lift3 (part m ρ (up c 2) c))) (lift3 (part m ρ (up c 1) c)))
    shapeCasts_S256x512_S2x128x512

/-- The shares the three gather transfers read slot `0` under, and the one kept for the load. -/
abbrev lent : Fin 3 → PosShare TreeShare := fun | 0 => fullShare.left.left | 1 => fullShare.left.right | 2 => fullShare.right.left
abbrev kept : PosShare TreeShare := fullShare.right.right

/-- A slot of a device held at some contents. -/
def some4 (c : Dev nD) (j : Fin 4) : sProp 𝕄 := iprop(∃ X, owns (c : Thread nD τ) (cslot j) fullShare X)
def somer (c : Dev nD) (k : Fin 3) : sProp 𝕄 := iprop(∃ X, owns (c : Thread nD τ) (rslot k) fullShare X)
def somes (c : Dev nD) (k : Fin 3) : sProp 𝕄 := iprop(∃ X, owns (c : Thread nD τ) (sslot k) fullShare X)

instance some4_storable (c : Dev nD) (j) : BI.Storable (upEmb : UEmb _ 𝕄) (some4 (F := F) c j) := by unfold some4; infer_instance
instance somer_storable (c : Dev nD) (k) : BI.Storable (upEmb : UEmb _ 𝕄) (somer (F := F) c k) := by unfold somer; infer_instance
instance somes_storable (c : Dev nD) (k) : BI.Storable (upEmb : UEmb _ 𝕄) (somes (F := F) c k) := by unfold somes; infer_instance

/-! ## The schedule -/

/-- What the signal of `dn c k` hands `c`: the two slots there that `c` writes, one of tokens and one of a partial. -/
def barPay (c : Dev nD) (k : Fin 3) : sProp 𝕄 := iprop(some4 (dn c k) k.rev.succ ∗ somer (dn c k) k)

/-- What a transfer's completion hands over: the slot read, or the slot written. -/
def xPay (c : Dev nD) : Fin 4 × Fin 3 → sProp 𝕄
  | (0, k) => owns (c : Thread nD τ) (cslot 0) (lent k) (xb m ρ c)
  | (1, k) => owns (c : Thread nD τ) (cslot k.succ) fullShare (xb m ρ (dn c k))
  | (2, k) => owns (c : Thread nD τ) (sslot k) fullShare (part m ρ c (dn c k))
  | (3, k) => owns (c : Thread nD τ) (rslot k) fullShare (part m ρ (up c k) c)

instance barPay_storable (c : Dev nD) (k) : BI.Storable (upEmb : UEmb _ 𝕄) (barPay (F := F) c k) := by unfold barPay; infer_instance
instance xPay_storable (c : Dev nD) (x) : BI.Storable (upEmb : UEmb _ 𝕄) (xPay (F := F) m ρ c x) := by
  obtain ⟨a, k⟩ := x
  fin_cases a <;> (simp only [xPay]; infer_instance)

abbrev IsBar (g : GSem nD τ sig) : Prop := g.1.2 = .tc ∧ g.2 = .reg barS
abbrev IsX (g : GSem nD τ sig) : Prop := g.1.2 = .tc ∧ ∃ x, g.2 = xsem x

open Classical in
/-- One round: a barrier cell has three duties of a unit, a transfer cell one of the slot's credit. -/
def sched : Rounds.Schedule (GSem nD τ sig) (Fin 3) 𝕄 where
  duties g r := if r = 0 ∧ IsBar g then Finset.univ else if r = 0 ∧ IsX g then {0} else ∅
  unitless _ := False
  amount g _ _ := if g.2 = .reg barS then 1 else N
  payload g _ d := if g.2 = .reg barS then barPay g.1.1 d else if h : ∃ x, g.2 = xsem x then xPay m ρ g.1.1 (Classical.choose h) else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  dsimp only [sched]
  (repeat' split) <;> infer_instance

section Sched
variable (c : Dev nD) (x : Fin 4 × Fin 3)

theorem duties_bar : (sched (F := F) m ρ).duties (barCell c) 0 = Finset.univ := by dsimp only [sched]; exact if_pos ⟨rfl, rfl, rfl⟩
theorem duties_x : (sched (F := F) m ρ).duties (xcell c x) 0 = {0} := by
  dsimp only [sched]; rw [if_neg (fun h => xsem_ne_bar x h.2.2)]; exact if_pos ⟨rfl, rfl, x, rfl⟩
theorem duties_later (g : GSem nD τ sig) : ∀ r, 1 ≤ r → (sched (F := F) m ρ).duties g r = ∅ :=
  fun r hr => by dsimp only [sched]; rw [if_neg fun h => by omega, if_neg fun h => by omega]
theorem amount_bar (d : Fin 3) : (sched (F := F) m ρ).amount (barCell c) 0 d = 1 := by dsimp only [sched]; exact if_pos rfl
theorem amount_x (d : Fin 3) : (sched (F := F) m ρ).amount (xcell c x) 0 d = N := by dsimp only [sched]; exact if_neg (xsem_ne_bar x)
theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_x : (sched (F := F) m ρ).expect (xcell c x) 0 = N := by
  unfold Schedule.expect Schedule.amountOf; rw [duties_x, Finset.sum_singleton, amount_x]
theorem payload_bar (d : Fin 3) : (sched (F := F) m ρ).payload (barCell c) 0 d = barPay c d := by dsimp only [sched]; exact if_pos rfl
theorem payload_x (d : Fin 3) : (sched (F := F) m ρ).payload (xcell c x) 0 d = xPay m ρ c x := by
  dsimp only [sched]
  rw [if_neg (xsem_ne_bar x), dif_pos ⟨x, rfl⟩]
  have h : ∃ y, xsem x = xsem y := ⟨x, rfl⟩
  rw [show Classical.choose h = x from (xsem_inj (Classical.choose_spec h)).symm]

theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-- A whole round of a barrier cell: the three payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_three, payload_bar, payload_bar, payload_bar]
/-- A whole round of a transfer cell: its payload. -/
theorem rest_x : bigSep ((sched (F := F) m ρ).duties (xcell c x) 0 \ ∅) (fun d => (sched (F := F) m ρ).payload (xcell c x) 0 d) = xPay m ρ c x := by
  rw [Finset.sdiff_empty, duties_x, bigSep_singleton, payload_x]

end Sched

/-! ## What a device owes; the levels -/

/-- A payment a device makes another: its signal, its tokens, its partial. -/
abbrev debt (c : Dev nD) : Fin 3 × Fin 3 → GSem nD τ sig × ℕ
  | (0, k) => (barCell (up c k), 1)
  | (1, k) => (xcell (up c k) (1, k), N)
  | (2, k) => (xcell (dn c k) (3, k), N)

/-- What is owed for a list of payments; the first is the last summand. -/
def owing (c : Dev nD) : List (Fin 3 × Fin 3) → CellTallies nD τ sig Unit
  | [] => 0
  | d :: ds => owing c ds + tallyAt (debt c d).1 () (debt c d).2

/-- The nine payments in the order the body makes them. -/
abbrev debts : List (Fin 3 × Fin 3) := [(0, 0), (0, 2), (0, 1), (1, 0), (1, 2), (1, 1), (2, 0), (2, 2), (2, 1)]

def O₀ (c : Dev nD) : CellTallies nD τ sig Unit := owing c debts

def L (g : GSem nD τ sig) : Finset Unit := if g.1.2 = .tc then {()} else ∅
/-- Barrier cells at 1, tokens received at 2, partials received at 3, everything else at 0. -/
def lv (g : GSem nD τ sig) (_ : Unit) : ℕ :=
  if g.2 = .reg barS then 1 else if ∃ k, g.2 = xsem (1, k) then 2 else if ∃ k, g.2 = xsem (3, k) then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_sem (g : GSem nD τ sig) (u : Unit) (sm : SemLoc sig) (h : g.2 = sm) :
    lv g u = if sm = .reg barS then 1 else if ∃ k, sm = xsem (1, k) then 2 else if ∃ k, sm = xsem (3, k) then 3 else 0 := by
  subst h; rfl

theorem lv_debt (c : Dev nD) (d : Fin 3 × Fin 3) : lv (debt c d).1 () = d.1.val + 1 := by
  have key : ∀ d : Fin 3 × Fin 3, (if (debt 0 d).1.2 = .reg barS then 1 else if ∃ k, (debt 0 d).1.2 = xsem (1, k) then 2
      else if ∃ k, (debt 0 d).1.2 = xsem (3, k) then 3 else 0) = d.1.val + 1 := by decide
  rw [lv_sem _ _ (debt 0 d).1.2 (by obtain ⟨a, k⟩ := d; fin_cases a <;> rfl)]
  exact key d

theorem lv_bar (c : Dev nD) : lv (barCell c) () = 1 := if_pos rfl

/-- What is owed is owed for one of the payments. -/
theorem owing_pos {c : Dev nD} {g : GSem nD τ sig} {u : Unit} : ∀ {l : List (Fin 3 × Fin 3)}, 0 < owing c l g u → ∃ d ∈ l, g = (debt c d).1
  | [], h => absurd h (Nat.lt_irrefl 0)
  | d :: ds, h => by
    by_cases hg : g = (debt c d).1
    · exact ⟨d, List.mem_cons_self .., hg⟩
    · unfold owing at h
      rw [Pi.add_apply, Finsupp.add_apply, tallyAt_apply, if_neg (fun h' => hg h'.1), Nat.add_zero] at h
      obtain ⟨e, he, hge⟩ := owing_pos h
      exact ⟨e, List.mem_cons_of_mem _ he, hge⟩

/-- A device may wait on a semaphore of level `n` while all it owes is of higher level. -/
theorem mayWait_of (c : Dev nD) (sm : SemLoc sig) (n : ℕ) (l : List (Fin 3 × Fin 3)) (hn : lv ((c : Thread nD τ), sm) () ≤ n)
    (hl : ∀ d ∈ l, n < d.1.val + 1) : (levAts L lv : sProp 𝕄) ⊢ MayWait (c : Thread nD τ) sm () (owing c l) :=
  MayOwe.of_cut (L := L) (lev := lv) n (fun p hp => by rw [Finset.mem_singleton.mp hp, L_tc]; exact Finset.mem_singleton_self _)
    (fun g u hg => by
      obtain ⟨d, -, rfl⟩ := owing_pos hg
      obtain ⟨a, k⟩ := d
      fin_cases a <;> exact Finset.mem_singleton_self _)
    (fun p hp => by rw [Finset.mem_singleton.mp hp]; exact hn)
    (fun g u hg => by
      obtain ⟨d, hd, rfl⟩ := owing_pos hg
      rw [lv_debt c d]; exact hl d hd)

theorem lv_x (c : Dev nD) (x : Fin 4 × Fin 3) : lv (xcell c x) () = if x.1 = 1 then 2 else if x.1 = 3 then 3 else 0 := by
  have key : ∀ x : Fin 4 × Fin 3, (if xsem x = .reg barS then 1 else if ∃ k, xsem x = xsem (1, k) then 2
      else if ∃ k, xsem x = xsem (3, k) then 3 else 0) = if x.1 = 1 then 2 else if x.1 = 3 then 3 else 0 := by decide
  rw [lv_sem _ _ (xsem x) rfl]
  exact key x

end Cert.KProof
-- ==== Proof.Memory.lean ====
/-
What the loads and stores of the body do: a slot loaded and stored, and the attention of one slot's tokens, its sixteen
blocks stored one after another and the whole loaded back.
-/
module

public import proofs.«01_k».proof.Proof.Protocol
public import Idealize.ShloMosaic.Lib.Pipeline.Value

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a device's program. -/
abbrev wpd (c : Dev nD) {α : Type} (p : Code F α) (Q : α → sProp 𝕄) : sProp 𝕄 :=
  wp frame (wpE (defs₀ (F := F)) 𝒱₀ (c : Thread nD τ) none) Set.univ p Q

theorem wpd_bind (c : Dev nD) {α β : Type} (p : Code F α) (k : α → Code F β) (Q : β → sProp 𝕄) :
    wpd c (p >>= k) Q = wpd c p fun a => wpd c (k a) Q := wp_bind _ _ _ _ _ _

theorem wpd_pure (c : Dev nD) {α : Type} (x : α) (Q : α → sProp 𝕄) : Q x ⊢ wpd c (pure x) Q := by
  unfold wpd
  rw [Prog.pure_eq_ret, wp_ret]
  iintro H; imodintro; iexact H

/-! ## Zero offsets -/

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## Slots -/

/-- Flattening what lifting made gives it back. -/
theorem flat_lift3 (x : FVec F S256x512 .bf16) : flat (lift3 x) = x := by
  exact shapeCast_shapeCast x _ _

/-- An addition reads what it adds through `flat`. -/
theorem addTo_flat (p : FVec F S256x512 .f32) {r : Vec F S1x256x512 .bf16} {X : FVec F S256x512 .bf16} (h : flat r = X) : addTo p r = addTo p (lift3 X) := by
  unfold addTo
  rw [flat_lift3, h]

/-- A load of slot `j` of the tokens' buffer reads what the slot holds. -/
theorem xload_wp (c : Dev nD) (a : Memref sig .tc .vmem S4x256x512 .bf16) (j : Fin 4) (q : PosShare TreeShare) (X : FVec F S256x512 .bf16)
    (Q : Vec F S1x256x512 .bf16 → sProp 𝕄) :
    owns (c : Thread nD τ) (slotOf4 a j) q X
      ⊢ iprop((∀ x, ⌜flat x = X⌝ -∗ owns (c : Thread nD τ) (slotOf4 a j) q X -∗ Q x) -∗ wpd c (xload a j) Q) := by
  unfold wpd xload Prog.lift
  unfold owns
  iintro ⟨%f, %hf, H⟩ Hk
  iapply (wp_load 𝒱₀ (c : Thread nD τ) none Set.univ (m := a) (by
    rw [View.set_reshape, View.set_slice]; exact subset_rfl)) $$ H
  iintro H
  rw [wp_ret]; imodintro
  ispecialize Hk $$ %(a.view.readAt (Elt F) (slot4Rect j).toLoadRect f)
  iapply Hk
  · ipureintro; rw [← hf]; rfl
  iexists f
  isplitr; · ipureintro; exact hf
  iexact H

/-- The same of a buffer of three. -/
theorem sload_wp (c : Dev nD) (a : Memref sig .tc .vmem S3x256x512 .bf16) (k : Fin 3) (q : PosShare TreeShare) (X : FVec F S256x512 .bf16)
    (Q : Vec F S1x256x512 .bf16 → sProp 𝕄) :
    owns (c : Thread nD τ) (slotOf3 a k) q X
      ⊢ iprop((∀ x, ⌜flat x = X⌝ -∗ owns (c : Thread nD τ) (slotOf3 a k) q X -∗ Q x) -∗ wpd c (sload a k) Q) := by
  unfold wpd sload Prog.lift
  unfold owns
  iintro ⟨%f, %hf, H⟩ Hk
  iapply (wp_load 𝒱₀ (c : Thread nD τ) none Set.univ (m := a) (by
    rw [View.set_reshape, View.set_slice]; exact subset_rfl)) $$ H
  iintro H
  rw [wp_ret]; imodintro
  ispecialize Hk $$ %(a.view.readAt (Elt F) (slot3Rect k).toLoadRect f)
  iapply Hk
  · ipureintro; rw [← hf]; rfl
  iexists f
  isplitr; · ipureintro; exact hf
  iexact H

/-- A store into slot `k` of the send buffer leaves what it stores there. -/
theorem sstore_wp (c : Dev nD) (a : Memref sig .tc .vmem S3x256x512 .bf16) (ha : a.IsWhole) (k : Fin 3) (X Y : FVec F S256x512 .bf16) (Q : PUnit → sProp 𝕄) :
    owns (c : Thread nD τ) (slotOf3 a k) fullShare X
      ⊢ iprop((owns (c : Thread nD τ) (slotOf3 a k) fullShare Y -∗ Q ⟨⟩) -∗ wpd c (sstore a ha k (lift3 Y)) Q) := by
  unfold wpd sstore Prog.lift
  unfold owns
  iintro ⟨%f, %hf, H⟩ Hk
  iapply (wp_store 𝒱₀ (c : Thread nD τ) none Set.univ (m := a) (r := slot3Rect k) (Mk := Finset.univ) (by
    rw [View.set_reshape]; exact subset_rfl)) $$ H
  iintro H
  rw [wp_ret]; imodintro
  iapply Hk
  iexists _
  isplitr [H]
  swap; · iexact H
  ipureintro
  refine Eq.trans ?_ (flat_lift3 Y)
  show shapeCast S256x512 ((a.access (slot3Rect k)).read (Elt F) _) _ = _
  rw [View.read_write_univ]
  rfl

/-- The store of the device's tokens leaves them in slot `0`. -/
theorem xstore_wp (c : Dev nD) (a : Memref sig .tc .vmem S4x256x512 .bf16) (ha : a.IsWhole) (X Y : FVec F S256x512 .bf16) (Q : PUnit → sProp 𝕄) :
    owns (c : Thread nD τ) (slotOf4 a 0) fullShare X
      ⊢ iprop((owns (c : Thread nD τ) (slotOf4 a 0) fullShare Y -∗ Q ⟨⟩) -∗ wpd c (xstore a ha (lift3 Y)) Q) := by
  unfold wpd xstore Prog.lift
  unfold owns
  iintro ⟨%f, %hf, H⟩ Hk
  iapply (wp_store 𝒱₀ (c : Thread nD τ) none Set.univ (m := a) (r := slot4Rect 0) (Mk := Finset.univ) (by
    rw [View.set_reshape]; exact subset_rfl)) $$ H
  iintro H
  rw [wp_ret]; imodintro
  iapply Hk
  iexists _
  isplitr [H]
  swap; · iexact H
  ipureintro
  refine Eq.trans ?_ (flat_lift3 Y)
  show shapeCast S256x512 ((a.access (slot4Rect 0)).read (Elt F) _) _ = _
  rw [View.read_write_univ]
  rfl

/-! ## The sixteen blocks -/

/-- Row and column `i` lie in block `p`. -/
abbrev inBlock (p : Fin 2 × Fin 8) (i : S256x512.Idx) : Prop := i ∈ (orgRect p).set

/-- The block an element lies in. -/
def blockOf (i : S256x512.Idx) : Fin 2 × Fin 8 :=
  (⟨(i 0).val / 128, (Nat.div_lt_iff_lt_mul (by decide)).mpr (i 0).isLt⟩, ⟨(i 1).val / 64, (Nat.div_lt_iff_lt_mul (by decide)).mpr (i 1).isLt⟩)

theorem mem_allBlocks (p : Fin 2 × Fin 8) : p ∈ allBlocks := by revert p; decide

theorem inBlock_of (i : S256x512.Idx) : inBlock (blockOf i) i := by
  refine Rect.mem_set_unit.mpr fun a => ?_
  fin_cases a
  · show 128 * ((i 0).val / 128) ≤ (i 0).val ∧ (i 0).val < 128 * ((i 0).val / 128) + 128
    omega
  · show 64 * ((i 1).val / 64) ≤ (i 1).val ∧ (i 1).val < 64 * ((i 1).val / 64) + 64
    omega

/-- In block `p` the attention is the head's block. -/
theorem attn_emb (q k v : FVec F S256x512 .bf16) (p : Fin 2 × Fin 8) (x : S128x64.Idx) : attn q k v ((orgRect p).emb x) = head q k v p x := by
  obtain ⟨b, h⟩ := p
  have h0 : (((orgRect (b, h)).emb x) 0).val = 128 * b.val + (x 0).val := by
    show 128 * b.val + 1 * (x 0).val = _
    rw [Nat.one_mul]
  have h1 : (((orgRect (b, h)).emb x) 1).val = 64 * h.val + (x 1).val := by
    show 64 * h.val + 1 * (x 1).val = _
    rw [Nat.one_mul]
  have hx0 : (x 0).val < 128 := (x 0).isLt
  have hx1 : (x 1).val < 64 := (x 1).isLt
  unfold attn
  have e1 : ((⟨(((orgRect (b, h)).emb x) 0).val / 128, (Nat.div_lt_iff_lt_mul (by decide)).mpr (((orgRect (b, h)).emb x) 0).isLt⟩ : Fin 2),
      (⟨(((orgRect (b, h)).emb x) 1).val / 64, (Nat.div_lt_iff_lt_mul (by decide)).mpr (((orgRect (b, h)).emb x) 1).isLt⟩ : Fin 8)) = (b, h) := by
    refine Prod.ext (Fin.ext ?_) (Fin.ext ?_)
    · show (((orgRect (b, h)).emb x) 0).val / 128 = b.val
      rw [h0]; omega
    · show (((orgRect (b, h)).emb x) 1).val / 64 = h.val
      rw [h1]; omega
  rw [e1]
  congr 1
  funext a
  fin_cases a
  · refine Fin.ext ?_
    show (((orgRect (b, h)).emb x) 0).val % 128 = (x 0).val
    rw [h0]; omega
  · refine Fin.ext ?_
    show (((orgRect (b, h)).emb x) 1).val % 64 = (x 1).val
    rw [h1]; omega

/-- After the stores of a list of blocks the buffer holds the attention on those and what it held elsewhere. -/
theorem blocks_wp (c : Dev nD) (q k v : FVec F S256x512 .bf16) (Q : PUnit → sProp 𝕄) (ps : List (Fin 2 × Fin 8)) :
    ∀ f : Buf (Elt F) ((c : Thread nD τ).loc cc0_scratch1), (((c : Thread nD τ).loc cc0_scratch1) ↦{fullShare} f)
      ⊢ iprop((∀ f' : Buf (Elt F) ((c : Thread nD τ).loc cc0_scratch1),
          ⌜∀ i : S256x512.Idx, ((∃ p ∈ ps, inBlock p i) → f' i = attn q k v i) ∧ ((¬∃ p ∈ ps, inBlock p i) → f' i = f i)⌝
            -∗ (((c : Thread nD τ).loc cc0_scratch1) ↦{fullShare} f') -∗ Q ⟨⟩)
          -∗ wpd c (blocks oM (Memref.isWhole_whole _) q k v ps) Q) := by
  induction ps with
  | nil =>
    intro f
    iintro H Hk
    unfold blocks
    iapply (wpd_pure c (PUnit.unit) Q)
    ispecialize Hk $$ %f
    iapply Hk
    · ipureintro
      exact fun i => ⟨fun ⟨p, hp, _⟩ => absurd hp List.not_mem_nil, fun _ => rfl⟩
    iexact H
  | cons p ps ih =>
    intro f
    iintro H Hk
    unfold blocks
    simp only [Prog.lift, Prog.bind_op, Prog.bind_ret]
    iapply (wp_load 𝒱₀ (c : Thread nD τ) none Set.univ (m := oM) (Finset.subset_univ _)) $$ H
    iintro H
    iapply (wp_store 𝒱₀ (c : Thread nD τ) none Set.univ (m := oM) (r := orgRect p) (Mk := Finset.univ) (Finset.subset_univ _)) $$ H
    iintro H
    iapply (ih _) $$ H
    iintro %f' %hf' H
    ispecialize Hk $$ %f'
    iapply Hk
    swap; · iexact H
    ipureintro
    intro i
    obtain ⟨h1, h2⟩ := hf' i
    by_cases hps : ∃ p ∈ ps, inBlock p i
    · obtain ⟨p', hp', hi'⟩ := hps
      exact ⟨fun _ => h1 ⟨p', hp', hi'⟩, fun hn => absurd ⟨p', List.mem_cons_of_mem _ hp', hi'⟩ hn⟩
    · rw [h2 hps]
      by_cases hp : inBlock p i
      · refine ⟨fun _ => ?_, fun hn => absurd ⟨p, List.mem_cons_self .., hp⟩ hn⟩
        rw [inBlock, ← Rect.map_emb_univ, Finset.mem_map] at hp
        obtain ⟨x, -, rfl⟩ := hp
        rw [attn_emb]
        exact View.read_slice_write_emb (Val := Elt F) (v := oM.view) (orgRect p) f (head q k v p) (Finset.mem_univ x)
      · refine ⟨fun ⟨p', hp', hi'⟩ => ?_, fun _ => ?_⟩
        · rcases List.mem_cons.mp hp' with rfl | h
          · exact absurd hi' hp
          · exact absurd ⟨p', h, hi'⟩ hps
        · refine View.read_slice_write_of_not_mem (Val := Elt F) (v := oM.view) (orgRect p) f (head q k v p) Finset.univ ?_
          rw [Rect.map_emb_univ]; exact hp

/-- The attention of a slot: the slot as it was, the buffer of blocks at some contents, the attention of the projections. -/
theorem attnAt_wp (c : Dev nD) (wq wk wv : FVec F S512x512 .bf16) (j : Fin 4) (q : PosShare TreeShare) (X : FVec F S256x512 .bf16)
    (Q : Vec F S256x512 .bf16 → sProp 𝕄) :
    iprop(owns (c : Thread nD τ) (cslot j) q X ∗ (∃ f : Buf (Elt F) ((c : Thread nD τ).loc cc0_scratch1), ((c : Thread nD τ).loc cc0_scratch1) ↦{fullShare} f))
      ⊢ iprop((owns (c : Thread nD τ) (cslot j) q X -∗ (∃ f : Buf (Elt F) ((c : Thread nD τ).loc cc0_scratch1), ((c : Thread nD τ).loc cc0_scratch1) ↦{fullShare} f)
            -∗ Q (attn (proj wq X) (proj wk X) (proj wv X)))
          -∗ wpd c (attnAt comm oM (Memref.isWhole_whole _) wq wk wv j) Q) := by
  iintro ⟨Hx, %f, Ho⟩ Hk
  unfold attnAt
  rw [wpd_bind]
  iapply (xload_wp c comm j q X _) $$ Hx
  iintro %x %hx Hx
  subst hx
  rw [wpd_bind]
  iapply (blocks_wp c _ _ _ _ allBlocks f) $$ Ho
  iintro %f' %hf' Ho
  have hall : f' = attn (proj wq (flat x)) (proj wk (flat x)) (proj wv (flat x)) :=
    funext fun i => (hf' i).1 ⟨blockOf i, mem_allBlocks _, inBlock_of i⟩
  subst hall
  unfold wpd Prog.lift
  iapply (wp_load 𝒱₀ (c : Thread nD τ) none Set.univ (m := oM) (Finset.subset_univ _)) $$ Ho
  iintro Ho
  rw [wp_ret]; imodintro
  rw [show oM.view.readAt (Elt F) (Rect.unit (s := S256x512) ![0, 0] S256x512.size inb_S256x512_S256x512_0_0).toLoadRect (attn (proj wq (flat x)) (proj wk (flat x)) (proj wv (flat x)))
    = attn (proj wq (flat x)) (proj wk (flat x)) (proj wv (flat x)) from Memref.readAt_unit_zero (Elt F) cc0_scratch1 hz2 _ _]
  iapply Hk $$ Hx
  iexists _
  iexact Ho

end Cert.KProof
-- ==== Proof.Steps.lean ====
/-
What the signals, waits and transfers of the body do, each for every distance and every slot at once.
-/
module

public import proofs.«01_k».proof.Proof.Memory

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 3) → ℕ)

/-- What every device may use again and again: all the cells' invariants, that all are at round `0`, the levels. -/
def records : sProp 𝕄 :=
  iprop(bigSep Finset.univ (fun ck => cellInv ER (sched m ρ) (K ck) (kcell ck)) ∗ bigSep Finset.univ (fun ck => reached ER (kcell ck) 0) ∗ levAts L lv)

instance records_persistent : BI.Persistent (records (F := F) m ρ K) := by unfold records; infer_instance

theorem records_cell (ck : Dev nD × Option (Fin 4 × Fin 3)) :
    records (F := F) m ρ K ⊢ iprop(cellInv ER (sched m ρ) (K ck) (kcell ck) ∗ reached ER (kcell ck) 0) := by
  unfold records
  iintro ⟨H1, H2, -⟩
  ihave H1 := (show bigSep Finset.univ (fun ck => cellInv ER (sched m ρ) (K ck) (kcell ck)) ⊢ cellInv ER (sched m ρ) (K ck) (kcell ck) from bigSep_elim (Finset.mem_univ ck)) $$ H1
  ihave H2 := (show bigSep Finset.univ (fun ck => reached ER (kcell ck) 0) ⊢ reached ER (kcell ck) 0 from bigSep_elim (Finset.mem_univ ck)) $$ H2
  isplitl [H1]; · iexact H1
  iexact H2

theorem records_lev : records (F := F) m ρ K ⊢ (levAts L lv : sProp 𝕄) := by
  unfold records
  iintro ⟨-, -, H⟩
  iexact H

/-- A device owes what it has still to pay. -/
def ow (c : Dev nD) (l : List (Fin 3 × Fin 3)) : sProp 𝕄 := iprop(∃ W, owes (c : Thread nD τ) (owing c l) W)

variable (c : Dev nD)

theorem xPay_0 (k : Fin 3) : xPay m ρ c (0, k) = owns (c : Thread nD τ) (cslot 0) (lent k) (xb m ρ c) := rfl
theorem xPay_1 (k : Fin 3) : xPay m ρ c (1, k) = owns (c : Thread nD τ) (cslot k.succ) fullShare (xb m ρ (dn c k)) := rfl
theorem xPay_2 (k : Fin 3) : xPay m ρ c (2, k) = owns (c : Thread nD τ) (sslot k) fullShare (part m ρ c (dn c k)) := rfl
theorem xPay_3 (k : Fin 3) : xPay m ρ c (3, k) = owns (c : Thread nD τ) (rslot k) fullShare (part m ρ (up c k) c) := rfl

theorem amount_g (k : Fin 3) : (cslot k.succ).view.amount (.dma (semAt cc0_scratch5 k)) = N := rfl
theorem amount_p (k : Fin 3) : (rslot k).view.amount (.dma (semAt cc0_scratch7 k)) = N := rfl

/-- The signal to the device `k + 1` above: it hands over the two slots that device writes here. -/
theorem signal_wp (Q : PUnit → sProp 𝕄) (k : Fin 3) (l : List (Fin 3 × Fin 3)) (e : Dev nD) (he : e = up c k) :
    iprop(records (F := F) m ρ K ∗ ow c ((0, k) :: l) ∗ dutyTok ER (barCell (up c k)) 0 k ∗ some4 c k.rev.succ ∗ somer c k)
      ⊢ iprop((ow c l -∗ Q ⟨⟩) -∗ wpd c (semSignalWord e barS 1#32) Q) := by
  subst he
  unfold wpd ow
  simp only [semSignalWord, Prog.lift]
  iintro ⟨#HR, ⟨%W, HO⟩, Ht, Hx, Hr⟩ Hk
  ihave ⟨#HI, #Hre⟩ := (records_cell m ρ K (up c k, none)) $$ HR
  iapply (Rounds.wp_signal 𝒱₀ ER (sched m ρ) (c : Thread nD τ) none (dst := (up c k : Thread nD τ)) (κ := K (up c k, none))
      (d := k) (by rw [duties_bar]; exact Finset.mem_univ _) ((amount_bar m ρ (up c k) k).trans (by decide)) () (owing c l) rfl)
    $$ [HO Ht Hx Hr]
  · isplitr; · iexact HI
    isplitl [HO]; · iexact HO
    isplitl [Ht]; · iexact Ht
    isplitl [Hx Hr]
    · rw [payload_bar]; unfold barPay; rw [dn_up]
      isplitl [Hx]; · iexact Hx
      iexact Hr
    iexact Hre
  iintro HO
  rw [wp_ret]; imodintro
  iapply Hk
  iexists W
  iexact HO

/-- The wait on the barrier: the slots of the three others, and the barrier's counter back. -/
theorem barwait_wp (Q : PUnit → sProp 𝕄) (l : List (Fin 3 × Fin 3)) (hl : ∀ d ∈ l, 1 < d.1.val + 1) :
    iprop(records (F := F) m ρ K ∗ ow c l ∗ cred (tallyAt (barCell c) () 3) ∗ atPos ER (barCell c) 0 ∅ 0)
      ⊢ iprop((ow c l -∗ barPay c 0 -∗ barPay c 1 -∗ barPay c 2 -∗ semVal (barCell c) 0 -∗ Q ⟨⟩) -∗ wpd c (semWaitWord barS 3#32) Q) := by
  unfold wpd ow
  simp only [semWaitWord, Prog.lift]
  iintro ⟨#HR, ⟨%W, HO⟩, Hc, Hat⟩ Hk
  ihave ⟨#HI, -⟩ := (records_cell m ρ K (c, none)) $$ HR
  iapply (Rounds.wp_wait_rest_token 𝒱₀ ER (sched m ρ) (c : Thread nD τ) none (κ := K (c, none))
      (wpE_semWait_eq 𝒱₀ (c : Thread nD τ) none Set.univ) (Set.mem_univ _) () (O := owing c l) (W := W) (R := 0) (m := 0) (T := ∅)
      (by rw [expect_bar]; decide)) $$ [Hc HO Hat]
  · isplitr; · iexact HI
    isplitl [Hc]; · iexact Hc
    isplitl [HO]; · iexact HO
    isplitr
    · iapply (mayWait_of c (.reg barS) 1 l (le_of_eq (lv_bar c)) hl)
      iapply (records_lev m ρ K)
      iexact HR
    iexact Hat
  iintro ⟨HO, Hat, -, Hpay⟩
  ihave Hp := (Entails.of_eq (rest_bar m ρ c)) $$ Hpay
  icases Hp with ⟨H0, H1, H2⟩
  imod (Rounds.cell_close ER (sched m ρ) (Set.mem_univ (K (c, none))) (fun h => h) (R := 0 + 1) (duties_later m ρ (barCell c))) $$ [Hat] with Hz
  · isplitr; · iexact HI
    iexact Hat
  rw [wp_ret]; imodintro
  iapply Hk $$ [HO] H0 H1 H2 Hz
  iexists _
  iexact HO

/-- A wait on a transfer cell: what the transfer hands over, and the cell's counter back. -/
theorem xwait_wp (Q : PUnit → sProp 𝕄) (x : Fin 4 × Fin 3) (l : List (Fin 3 × Fin 3)) (n : ℕ) (hn : (if x.1 = 1 then 2 else if x.1 = 3 then 3 else 0) ≤ n) (hl : ∀ d ∈ l, n < d.1.val + 1)
    (w : TpuEff nD τ sig (Elt F) Λ₀ .tc PUnit)
    (hw : ∀ R : PUnit → sProp 𝕄, wpE (defs₀ (F := F)) 𝒱₀ (c : Thread nD τ) none Set.univ w R = waitSpec (c : Thread nD τ) Set.univ (xsem x) N R) :
    iprop(records (F := F) m ρ K ∗ ow c l ∗ cred (tallyAt (xcell c x) () N) ∗ atPos ER (xcell c x) 0 ∅ 0)
      ⊢ iprop((ow c l -∗ xPay m ρ c x -∗ semVal (xcell c x) 0 -∗ Q ⟨⟩) -∗ wpd c (Prog.lift w) Q) := by
  unfold wpd ow Prog.lift
  iintro ⟨#HR, ⟨%W, HO⟩, Hc, Hat⟩ Hk
  ihave ⟨#HI, -⟩ := (records_cell m ρ K (c, some x)) $$ HR
  iapply (Rounds.wp_wait_rest_token 𝒱₀ ER (sched m ρ) (c : Thread nD τ) none (κ := K (c, some x))
      hw (Set.mem_univ _) () (O := owing c l) (W := W) (R := 0) (m := 0) (T := ∅)
      (by rw [Nat.zero_add]; exact (expect_x m ρ c x).symm)) $$ [Hc HO Hat]
  · isplitr; · iexact HI
    isplitl [Hc]; · iexact Hc
    isplitl [HO]; · iexact HO
    isplitr
    · iapply (mayWait_of c (xsem x) n l (le_trans (le_of_eq (lv_x c x)) hn) hl)
      iapply (records_lev m ρ K)
      iexact HR
    iexact Hat
  iintro ⟨HO, Hat, -, Hpay⟩
  ihave Hp := (Entails.of_eq (rest_x m ρ c x)) $$ Hpay
  imod (Rounds.cell_close ER (sched m ρ) (Set.mem_univ (K (c, some x))) (fun h => h) (R := 0 + 1) (duties_later m ρ (xcell c x))) $$ [Hat] with Hz
  · isplitr; · iexact HI
    iexact Hat
  rw [wp_ret]; imodintro
  iapply Hk $$ [HO] Hp Hz
  iexists _
  iexact HO

/-- The wait for the tokens of distance `k + 1`, -/
theorem gwait_wp (Q : PUnit → sProp 𝕄) (k : Fin 3) (l : List (Fin 3 × Fin 3)) (hl : ∀ d ∈ l, 2 < d.1.val + 1) :
    iprop(records (F := F) m ρ K ∗ ow c l ∗ cred (tallyAt (xcell c (1, k)) () N) ∗ atPos ER (xcell c (1, k)) 0 ∅ 0)
      ⊢ iprop((ow c l -∗ xPay m ρ c (1, k) -∗ semVal (xcell c (1, k)) 0 -∗ Q ⟨⟩) -∗ wpd c (gwait comm (Memref.isWhole_whole _) cc0_scratch5 k) Q) :=
  xwait_wp m ρ K c Q (1, k) l 2 (by revert k; decide) hl _ fun R => wpE_waitDma2_eq 𝒱₀ (c : Thread nD τ) none Set.univ R
/-- for the partial of distance `k + 1`, -/
theorem pwait_wp (Q : PUnit → sProp 𝕄) (k : Fin 3) :
    iprop(records (F := F) m ρ K ∗ ow c [] ∗ cred (tallyAt (xcell c (3, k)) () N) ∗ atPos ER (xcell c (3, k)) 0 ∅ 0)
      ⊢ iprop((ow c [] -∗ xPay m ρ c (3, k) -∗ semVal (xcell c (3, k)) 0 -∗ Q ⟨⟩)
          -∗ wpd c (pwait snd (Memref.isWhole_whole _) rcv (Memref.isWhole_whole _) cc0_scratch7 k) Q) :=
  xwait_wp m ρ K c Q (3, k) [] 3 (by revert k; decide) (fun d h => absurd h List.not_mem_nil) _ fun R => wpE_waitDma2_eq 𝒱₀ (c : Thread nD τ) none Set.univ R
/-- and for the transfers sent. -/
theorem gdone_wp (Q : PUnit → sProp 𝕄) (k : Fin 3) :
    iprop(records (F := F) m ρ K ∗ ow c [] ∗ cred (tallyAt (xcell c (0, k)) () N) ∗ atPos ER (xcell c (0, k)) 0 ∅ 0)
      ⊢ iprop((ow c [] -∗ xPay m ρ c (0, k) -∗ semVal (xcell c (0, k)) 0 -∗ Q ⟨⟩) -∗ wpd c (gdone comm (Memref.isWhole_whole _) cc0_scratch4 k) Q) :=
  xwait_wp m ρ K c Q (0, k) [] 0 (by revert k; decide) (fun d h => absurd h List.not_mem_nil) _ fun R => wpE_waitDma2_eq 𝒱₀ (c : Thread nD τ) none Set.univ R
theorem pdone_wp (Q : PUnit → sProp 𝕄) (k : Fin 3) :
    iprop(records (F := F) m ρ K ∗ ow c [] ∗ cred (tallyAt (xcell c (2, k)) () N) ∗ atPos ER (xcell c (2, k)) 0 ∅ 0)
      ⊢ iprop((ow c [] -∗ xPay m ρ c (2, k) -∗ semVal (xcell c (2, k)) 0 -∗ Q ⟨⟩)
          -∗ wpd c (pdone snd (Memref.isWhole_whole _) rcv (Memref.isWhole_whole _) cc0_scratch6 k) Q) :=
  xwait_wp m ρ K c Q (2, k) [] 0 (by revert k; decide) (fun d h => absurd h List.not_mem_nil) _ fun R => wpE_waitDma2_eq 𝒱₀ (c : Thread nD τ) none Set.univ R

/-- The transfer of the tokens to the device `k + 1` above. -/
theorem gsend_wp (Q : PUnit → sProp 𝕄) (k : Fin 3) (l : List (Fin 3 × Fin 3)) (e : Dev nD) (he : e = up c k) :
    iprop(records (F := F) m ρ K ∗ ow c ((1, k) :: l) ∗ owns (c : Thread nD τ) (cslot 0) (lent k) (xb m ρ c) ∗ some4 (up c k) k.succ
        ∗ dutyTok ER (xcell c (0, k)) 0 0 ∗ dutyTok ER (xcell (up c k) (1, k)) 0 0)
      ⊢ iprop((ow c l -∗ cred (tallyAt (xcell c (0, k)) () N) -∗ Q ⟨⟩)
          -∗ wpd c (gsend comm (Memref.isWhole_whole _) cc0_scratch4 cc0_scratch5 k e) Q) := by
  subst he
  unfold wpd ow gsend Prog.lift
  iintro ⟨#HR, ⟨%W, HO⟩, Hs, Hd, Ht1, Ht2⟩ Hk
  ihave ⟨#HI1, #Hr1⟩ := (records_cell m ρ K (c, some (0, k))) $$ HR
  ihave ⟨#HI2, #Hr2⟩ := (records_cell m ρ K (up c k, some (1, k))) $$ HR
  unfold some4 owns
  icases Hs with ⟨%fs, %hfs, Hs⟩
  icases Hd with ⟨%X, %fd, %hfd, Hd⟩
  iapply (Rounds.wp_send_pointsTo 𝒱₀ ER (sched m ρ) (c : Thread nD τ) none (κ₁ := K (c, some (0, k))) (κ₂ := K (up c k, some (1, k)))
    (r₁ := 0) (r₂ := 0) (d₁ := 0) (d₂ := 0) (fs := fs) (fd := fd) (q := lent k)
    (by exact (duties_x m ρ c (0, k)).symm ▸ Finset.mem_singleton_self _) (by exact (duties_x m ρ (up c k) (1, k)).symm ▸ Finset.mem_singleton_self _)
    () () N (amount_g k) (amount_x m ρ c (0, k) 0) (amount_x m ρ (up c k) (1, k) 0) (owing c l) rfl (W := W)
    (by
      refine BIBase.Entails.trans ?_ (Entails.of_eq (payload_x m ρ c (0, k) 0).symm)
      unfold xPay owns
      iintro H
      iexists fs
      isplitr; · ipureintro; exact hfs
      iexact H)
    (by
      refine BIBase.Entails.trans ?_ (Entails.of_eq (payload_x m ρ (up c k) (1, k) 0).symm)
      rw [xPay_1, dn_up, ← hfs]
      refine (owns_intro _ _ _ _).trans (Entails.of_eq ?_)
      rw [View.read_write_univ])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk $$ [HO] Hc
  iexists W
  iexact HO

/-- The transfer of a partial to the device `k + 1` below. -/
theorem psend_wp (Q : PUnit → sProp 𝕄) (k : Fin 3) (l : List (Fin 3 × Fin 3)) (e : Dev nD) (he : e = dn c k) :
    iprop(records (F := F) m ρ K ∗ ow c ((2, k) :: l) ∗ owns (c : Thread nD τ) (sslot k) fullShare (part m ρ c (dn c k)) ∗ somer (dn c k) k
        ∗ dutyTok ER (xcell c (2, k)) 0 0 ∗ dutyTok ER (xcell (dn c k) (3, k)) 0 0)
      ⊢ iprop((ow c l -∗ cred (tallyAt (xcell c (2, k)) () N) -∗ Q ⟨⟩)
          -∗ wpd c (psend snd (Memref.isWhole_whole _) rcv (Memref.isWhole_whole _) cc0_scratch6 cc0_scratch7 k e) Q) := by
  subst he
  unfold wpd ow psend Prog.lift
  iintro ⟨#HR, ⟨%W, HO⟩, Hs, Hd, Ht1, Ht2⟩ Hk
  ihave ⟨#HI1, #Hr1⟩ := (records_cell m ρ K (c, some (2, k))) $$ HR
  ihave ⟨#HI2, #Hr2⟩ := (records_cell m ρ K (dn c k, some (3, k))) $$ HR
  unfold somer owns
  icases Hs with ⟨%fs, %hfs, Hs⟩
  icases Hd with ⟨%X, %fd, %hfd, Hd⟩
  iapply (Rounds.wp_send_pointsTo 𝒱₀ ER (sched m ρ) (c : Thread nD τ) none (κ₁ := K (c, some (2, k))) (κ₂ := K (dn c k, some (3, k)))
    (r₁ := 0) (r₂ := 0) (d₁ := 0) (d₂ := 0) (fs := fs) (fd := fd) (q := fullShare)
    (by exact (duties_x m ρ c (2, k)).symm ▸ Finset.mem_singleton_self _) (by exact (duties_x m ρ (dn c k) (3, k)).symm ▸ Finset.mem_singleton_self _)
    () () N (amount_p k) (amount_x m ρ c (2, k) 0) (amount_x m ρ (dn c k) (3, k) 0) (owing c l) rfl (W := W)
    (by
      refine BIBase.Entails.trans ?_ (Entails.of_eq (payload_x m ρ c (2, k) 0).symm)
      unfold xPay owns
      iintro H
      iexists fs
      isplitr; · ipureintro; exact hfs
      iexact H)
    (by
      refine BIBase.Entails.trans ?_ (Entails.of_eq (payload_x m ρ (dn c k) (3, k) 0).symm)
      rw [xPay_3, up_dn, ← hfs]
      refine (owns_intro _ _ _ _).trans (Entails.of_eq ?_)
      rw [View.read_write_univ])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk $$ [HO] Hc
  iexists W
  iexact HO

/-- One turn: the tokens of distance `k + 1` waited for, attended to, the partial stored and sent down. -/
theorem turn_wp (Q : PUnit → sProp 𝕄) (k : Fin 3) (l : List (Fin 3 × Fin 3)) (hl : ∀ d ∈ (2, k) :: l, 2 < d.1.val + 1) (e : Dev nD) (he : e = dn c k) :
    iprop(records (F := F) m ρ K ∗ ow c ((2, k) :: l)
        ∗ (cred (tallyAt (xcell c (1, k)) () N) ∗ atPos ER (xcell c (1, k)) 0 ∅ 0 ∗ dutyTok ER (xcell c (2, k)) 0 0 ∗ dutyTok ER (xcell (dn c k) (3, k)) 0 0)
        ∗ (∃ f : Buf (Elt F) ((c : Thread nD τ).loc cc0_scratch1), ((c : Thread nD τ).loc cc0_scratch1) ↦{fullShare} f) ∗ somes c k ∗ somer (dn c k) k)
      ⊢ iprop((ow c l -∗ cred (tallyAt (xcell c (2, k)) () N) -∗ semVal (xcell c (1, k)) 0
            -∗ (∃ f : Buf (Elt F) ((c : Thread nD τ).loc cc0_scratch1), ((c : Thread nD τ).loc cc0_scratch1) ↦{fullShare} f)
            -∗ some4 c k.succ -∗ Q ⟨⟩)
          -∗ wpd c (turn comm (Memref.isWhole_whole _) oM (Memref.isWhole_whole _) snd (Memref.isWhole_whole _) rcv (Memref.isWhole_whole _)
              cc0_scratch5 cc0_scratch6 cc0_scratch7 (wt (stgq m ρ c)) (wt (stgk m ρ c)) (wt (stgv m ρ c)) (wt (stgo m ρ c)) k e) Q) := by
  unfold somes
  iintro ⟨#HR, HO, ⟨Hcr, Hat, Ht1, Ht2⟩, Ho, ⟨%X, Hs⟩, Hr⟩ Hk
  unfold turn
  rw [wpd_bind]
  iapply (gwait_wp m ρ K c _ k _ hl) $$ [HO Hcr Hat]
  · isplitr; · iexact HR
    isplitl [HO]; · iexact HO
    isplitl [Hcr] <;> iassumption
  iintro HO Hp Hz
  ihave Hp := (Entails.of_eq (xPay_1 m ρ c k)) $$ Hp
  rw [wpd_bind]
  iapply (attnAt_wp c (wt (stgq m ρ c)) (wt (stgk m ρ c)) (wt (stgv m ρ c)) k.succ fullShare (xb m ρ (dn c k)) _) $$ [Hp Ho]
  · isplitl [Hp] <;> iassumption
  iintro Hp Ho
  rw [wpd_bind]
  iapply (sload_wp c snd k fullShare X _) $$ Hs
  iintro %y %hy Hs
  rw [wpd_bind]
  iapply (sstore_wp c snd (Memref.isWhole_whole _) k X (part m ρ c (dn c k)) _) $$ Hs
  iintro Hs
  iapply (psend_wp m ρ K c Q k l e he) $$ [HO Hs Hr Ht1 Ht2]
  · isplitr; · iexact HR
    isplitl [HO]; · iexact HO
    isplitl [Hs]; · iexact Hs
    isplitl [Hr]; · iexact Hr
    isplitl [Ht1] <;> iassumption
  iintro HO Hc
  iapply Hk $$ HO Hc Hz Ho
  unfold some4
  iexists _
  iexact Hp

end Cert.KProof
-- ==== Proof.Slots.lean ====
/-
A buffer of slots is its slots: split when the kernel starts, joined when it ends; the tokens' slot 0 shared between
the three transfers that read it and the load.
-/
module

public import proofs.«01_k».proof.Proof.Steps

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The elements of a slot -/

theorem mem_cslot (j : Fin 4) (i : S4x256x512.Idx) : i ∈ (cslot j).view.set ↔ (i 0).val = j.val := by
  rw [View.set_reshape, View.set_slice, Finset.mem_map]
  have hr : i ∈ (slot4Rect j).set ↔ (i 0).val = j.val := by
    refine Rect.mem_set_unit.trans ⟨fun h => ?_, fun h a => ?_⟩
    · have h0 : j.val ≤ (i 0).val ∧ (i 0).val < j.val + 1 := h 0
      omega
    · have h1 : (i 1).val < 256 := (i 1).isLt
      have h2 : (i 2).val < 512 := (i 2).isLt
      fin_cases a
      · show j.val ≤ (i 0).val ∧ (i 0).val < j.val + 1
        omega
      · show 0 ≤ (i 1).val ∧ (i 1).val < 0 + 256
        omega
      · show 0 ≤ (i 2).val ∧ (i 2).val < 0 + 512
        omega
  exact ⟨fun ⟨x, hx, e⟩ => hr.mp (e ▸ hx), fun h => ⟨i, hr.mpr h, rfl⟩⟩

theorem mem_slot3 (i : S3x256x512.Idx) (k : Fin 3) : i ∈ (slot3Rect k).set ↔ (i 0).val = k.val := by
  refine Rect.mem_set_unit.trans ⟨fun h => ?_, fun h a => ?_⟩
  · have h0 : k.val ≤ (i 0).val ∧ (i 0).val < k.val + 1 := h 0
    omega
  · have h1 : (i 1).val < 256 := (i 1).isLt
    have h2 : (i 2).val < 512 := (i 2).isLt
    fin_cases a
    · show k.val ≤ (i 0).val ∧ (i 0).val < k.val + 1
      omega
    · show 0 ≤ (i 1).val ∧ (i 1).val < 0 + 256
      omega
    · show 0 ≤ (i 2).val ∧ (i 2).val < 0 + 512
      omega

theorem mem_sslot (k : Fin 3) (i : S3x256x512.Idx) : i ∈ (sslot k).view.set ↔ (i 0).val = k.val := by
  rw [View.set_reshape, View.set_slice, Finset.mem_map]
  exact ⟨fun ⟨x, hx, e⟩ => (mem_slot3 i k).mp (e ▸ hx), fun h => ⟨i, (mem_slot3 i k).mpr h, rfl⟩⟩

theorem mem_rslot (k : Fin 3) (i : S3x256x512.Idx) : i ∈ (rslot k).view.set ↔ (i 0).val = k.val := by
  rw [View.set_reshape, View.set_slice, Finset.mem_map]
  exact ⟨fun ⟨x, hx, e⟩ => (mem_slot3 i k).mp (e ▸ hx), fun h => ⟨i, (mem_slot3 i k).mpr h, rfl⟩⟩

/-! ## Splitting and joining -/

/-- A buffer all of whose elements lie in exactly one of a family of sets, held at some contents, is those sets held so. -/
theorem pieces {T : Type} [Fintype T] [DecidableEq T] (ℓ : Loc nD τ sig) (S : T → Finset (Idx ℓ)) (hcov : ∀ i, ∃ t, i ∈ S t)
    (hdis : ∀ t t' i, i ∈ S t → i ∈ S t' → t = t') :
    (iprop(∃ f : Buf (Elt F) ℓ, ℓ ↦{fullShare} f) ⊢ (bigSep Finset.univ fun t => iprop(∃ f : Buf (Elt F) ℓ, ℓ ↦[S t]{fullShare} f) : sProp 𝕄)) := by
  have hu : (Finset.univ : Finset (Idx ℓ)) = Finset.univ.biUnion S := by
    ext i
    obtain ⟨t, ht⟩ := hcov i
    exact ⟨fun _ => Finset.mem_biUnion.mpr ⟨t, Finset.mem_univ _, ht⟩, fun _ => Finset.mem_univ _⟩
  have hd : ∀ t ∈ (Finset.univ : Finset T), ∀ t' ∈ (Finset.univ : Finset T), t ≠ t' → Disjoint (S t) (S t') := fun t _ t' _ hne =>
    Finset.disjoint_left.mpr fun i h h' => hne (hdis t t' i h h')
  iintro ⟨%f, H⟩
  rw [hu]
  ihave H := (Entails.of_eq (pointsTo_biUnion Finset.univ S hd)) $$ H
  iapply (show (bigSep Finset.univ fun t => (ℓ ↦[S t]{fullShare} f : sProp 𝕄)) ⊢ bigSep Finset.univ fun t => iprop(∃ f : Buf (Elt F) ℓ, ℓ ↦[S t]{fullShare} f) from
    bigSep_mono fun t _ => show (ℓ ↦[S t]{fullShare} f : sProp 𝕄) ⊢ iprop(∃ f : Buf (Elt F) ℓ, ℓ ↦[S t]{fullShare} f) from exists_intro f)
  iexact H

/-- And back, a piece's contents given. -/
theorem unpieces {T : Type} [Fintype T] [DecidableEq T] (ℓ : Loc nD τ sig) (S : T → Finset (Idx ℓ)) (hcov : ∀ i, ∃ t, i ∈ S t)
    (hdis : ∀ t t' i, i ∈ S t → i ∈ S t' → t = t') (fs : T → Buf (Elt F) ℓ) (f₀ : Buf (Elt F) ℓ) :
    ((bigSep Finset.univ fun t => (ℓ ↦[S t]{fullShare} fs t : sProp 𝕄)) ⊢ iprop(∃ f : Buf (Elt F) ℓ, ℓ ↦{fullShare} f)) := by
  have hu : (Finset.univ : Finset (Idx ℓ)) = Finset.univ.biUnion S := by
    ext i
    obtain ⟨t, ht⟩ := hcov i
    exact ⟨fun _ => Finset.mem_biUnion.mpr ⟨t, Finset.mem_univ _, ht⟩, fun _ => Finset.mem_univ _⟩
  have hd : ∀ t ∈ (Finset.univ : Finset T), ∀ t' ∈ (Finset.univ : Finset T), t ≠ t' → Disjoint (S t) (S t') := fun t _ t' _ hne =>
    Finset.disjoint_left.mpr fun i h h' => hne (hdis t t' i h h')
  refine (pointsTo_biUnion_join Finset.univ S fs f₀ hd).trans ?_
  rw [← hu]
  iintro ⟨%g, -, H⟩
  iexists g
  iexact H

variable (c : Dev nD)

abbrev anyBuf (b : Ref sig .tc) : sProp 𝕄 := iprop(∃ f : Buf (Elt F) ((c : Thread nD τ).loc b), ((c : Thread nD τ).loc b) ↦{fullShare} f)

/-- The tokens' buffer splits into its four slots; -/
theorem split4 : (anyBuf (F := F) c cc0_scratch0) ⊢ iprop(some4 c 0 ∗ some4 c 1 ∗ some4 c 2 ∗ some4 c 3) := by
  refine (pieces ((c : Thread nD τ).loc cc0_scratch0) (fun j => (cslot j).view.set)
    (fun i => ⟨⟨((i : S4x256x512.Idx) 0).val, ((i : S4x256x512.Idx) 0).isLt⟩, (mem_cslot _ i).mpr rfl⟩)
    (fun t t' i h h' => Fin.ext (((mem_cslot t i).mp h).symm.trans ((mem_cslot t' i).mp h')))).trans ?_
  rw [← bigSep_four (fun j => some4 (F := F) c j)]
  refine bigSep_mono fun j _ => ?_
  show _ ⊢ some4 c j
  unfold some4
  iintro ⟨%f, H⟩
  iexists ((cslot j).view.read (Elt F) f)
  iapply (owns_intro (c : Thread nD τ) (cslot j) fullShare f)
  iexact H

/-- and is joined from them. -/
theorem join4 : iprop(some4 c 0 ∗ some4 c 1 ∗ some4 c 2 ∗ some4 c 3) ⊢ (anyBuf (F := F) c cc0_scratch0) := by
  unfold some4 owns
  iintro ⟨⟨%X0, %f0, %h0, H0⟩, ⟨%X1, %f1, %h1, H1⟩, ⟨%X2, %f2, %h2, H2⟩, ⟨%X3, %f3, %h3, H3⟩⟩
  iapply (unpieces ((c : Thread nD τ).loc cc0_scratch0) (fun j => (cslot j).view.set)
    (fun i => ⟨⟨((i : S4x256x512.Idx) 0).val, ((i : S4x256x512.Idx) 0).isLt⟩, (mem_cslot _ i).mpr rfl⟩)
    (fun t t' i h h' => Fin.ext (((mem_cslot t i).mp h).symm.trans ((mem_cslot t' i).mp h')))
    (fun | 0 => f0 | 1 => f1 | 2 => f2 | 3 => f3) f0)
  rw [bigSep_four]
  isplitl [H0]; · iexact H0
  isplitl [H1]; · iexact H1
  isplitl [H2]; · iexact H2
  iexact H3

/-- The send buffer's three slots, -/
theorem splits : (anyBuf (F := F) c cc0_scratch2) ⊢ iprop(somes c 0 ∗ somes c 1 ∗ somes c 2) := by
  refine (pieces ((c : Thread nD τ).loc cc0_scratch2) (fun j => (sslot j).view.set)
    (fun i => ⟨⟨((i : S3x256x512.Idx) 0).val, ((i : S3x256x512.Idx) 0).isLt⟩, (mem_sslot _ i).mpr rfl⟩)
    (fun t t' i h h' => Fin.ext (((mem_sslot t i).mp h).symm.trans ((mem_sslot t' i).mp h')))).trans ?_
  rw [← bigSep_three (fun j => somes (F := F) c j)]
  refine bigSep_mono fun j _ => ?_
  show _ ⊢ somes c j
  unfold somes
  iintro ⟨%f, H⟩
  iexists ((sslot j).view.read (Elt F) f)
  iapply (owns_intro (c : Thread nD τ) (sslot j) fullShare f)
  iexact H

theorem joins : iprop(somes c 0 ∗ somes c 1 ∗ somes c 2) ⊢ (anyBuf (F := F) c cc0_scratch2) := by
  unfold somes owns
  iintro ⟨⟨%X0, %f0, %h0, H0⟩, ⟨%X1, %f1, %h1, H1⟩, ⟨%X2, %f2, %h2, H2⟩⟩
  iapply (unpieces ((c : Thread nD τ).loc cc0_scratch2) (fun j => (sslot j).view.set)
    (fun i => ⟨⟨((i : S3x256x512.Idx) 0).val, ((i : S3x256x512.Idx) 0).isLt⟩, (mem_sslot _ i).mpr rfl⟩)
    (fun t t' i h h' => Fin.ext (((mem_sslot t i).mp h).symm.trans ((mem_sslot t' i).mp h')))
    (fun | 0 => f0 | 1 => f1 | 2 => f2) f0)
  rw [bigSep_three]
  isplitl [H0]; · iexact H0
  isplitl [H1]; · iexact H1
  iexact H2

/-- and the receive buffer's. -/
theorem splitr : (anyBuf (F := F) c cc0_scratch3) ⊢ iprop(somer c 0 ∗ somer c 1 ∗ somer c 2) := by
  refine (pieces ((c : Thread nD τ).loc cc0_scratch3) (fun j => (rslot j).view.set)
    (fun i => ⟨⟨((i : S3x256x512.Idx) 0).val, ((i : S3x256x512.Idx) 0).isLt⟩, (mem_rslot _ i).mpr rfl⟩)
    (fun t t' i h h' => Fin.ext (((mem_rslot t i).mp h).symm.trans ((mem_rslot t' i).mp h')))).trans ?_
  rw [← bigSep_three (fun j => somer (F := F) c j)]
  refine bigSep_mono fun j _ => ?_
  show _ ⊢ somer c j
  unfold somer
  iintro ⟨%f, H⟩
  iexists ((rslot j).view.read (Elt F) f)
  iapply (owns_intro (c : Thread nD τ) (rslot j) fullShare f)
  iexact H

theorem joinr : iprop(somer c 0 ∗ somer c 1 ∗ somer c 2) ⊢ (anyBuf (F := F) c cc0_scratch3) := by
  unfold somer owns
  iintro ⟨⟨%X0, %f0, %h0, H0⟩, ⟨%X1, %f1, %h1, H1⟩, ⟨%X2, %f2, %h2, H2⟩⟩
  iapply (unpieces ((c : Thread nD τ).loc cc0_scratch3) (fun j => (rslot j).view.set)
    (fun i => ⟨⟨((i : S3x256x512.Idx) 0).val, ((i : S3x256x512.Idx) 0).isLt⟩, (mem_rslot _ i).mpr rfl⟩)
    (fun t t' i h h' => Fin.ext (((mem_rslot t i).mp h).symm.trans ((mem_rslot t' i).mp h')))
    (fun | 0 => f0 | 1 => f1 | 2 => f2) f0)
  rw [bigSep_three]
  isplitl [H0]; · iexact H0
  isplitl [H1]; · iexact H1
  iexact H2

/-- A memref held at a share is held at its two halves. -/
theorem halves (M : Memref sig .tc .vmem S256x512 .bf16) (q : PosShare TreeShare) (X : FVec F S256x512 .bf16) : (owns (c : Thread nD τ) M q X : sProp 𝕄)
    ⊣⊢ iprop(owns (c : Thread nD τ) M q.left X ∗ owns (c : Thread nD τ) M q.right X) := by
  have hq := PosShare.mem_left_op_right q
  unfold owns
  constructor
  · iintro ⟨%f, %hf, H⟩
    ihave H := (pointsTo_share hq).1 $$ H
    icases H with ⟨H1, H2⟩
    isplitl [H1]
    · iexists f
      isplitr; · ipureintro; exact hf
      iexact H1
    · iexists f
      isplitr; · ipureintro; exact hf
      iexact H2
  · iintro ⟨⟨%f, %hf, H1⟩, ⟨%g, %hg, H2⟩⟩
    have hfg : ∀ i ∈ M.view.set, g i = f i := by
      intro i hi
      obtain ⟨x, -, rfl⟩ := Finset.mem_map.mp hi
      have hx := congrFun (hg.trans hf.symm) x
      rw [View.read_apply, View.read_apply] at hx
      exact cast_inj _ |>.mp hx
    ihave H2 := (Entails.of_eq (pointsTo_congr hfg)) $$ H2
    iexists f
    isplitr; · ipureintro; exact hf
    iapply (pointsTo_share hq).2
    isplitl [H1] <;> iassumption

/-- A memref's share dealt to three transfers and a load, and gathered again. -/
theorem shares (M : Memref sig .tc .vmem S256x512 .bf16) (X : FVec F S256x512 .bf16) : (owns (c : Thread nD τ) M fullShare X : sProp 𝕄)
    ⊣⊢ iprop((owns (c : Thread nD τ) M (lent 0) X ∗ owns (c : Thread nD τ) M (lent 1) X)
        ∗ (owns (c : Thread nD τ) M (lent 2) X ∗ owns (c : Thread nD τ) M kept X)) :=
  ⟨(halves c M fullShare X).1.trans (BIClass.sep_mono (halves c M fullShare.left X).1 (halves c M fullShare.right X).1),
    (BIClass.sep_mono (halves c M fullShare.left X).2 (halves c M fullShare.right X).2).trans (halves c M fullShare X).2⟩

end Cert.KProof
-- ==== Proof.Device.lean ====
/-
The body of one device run from its resources: signals, barrier, the three gathers, the four partials, the three
scatters, the sum stored. The pipeline's proof data and its body obligation.
-/
module

public import proofs.«01_k».proof.Proof.Slots

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option (Fin 4 × Fin 3) → ℕ) (c : Dev nD)

/-! ## The staging buffers -/

/-- A buffer of a device held whole. -/
abbrev pts (b : Ref sig .tc) (X : b.ty.Contents (Elt F)) : sProp 𝕄 := (((c : Thread nD τ).loc b) ↦{fullShare} X)

/-- Asking for the device's number. -/
theorem devid_wp (Q : Dev nD → sProp 𝕄) : Q c ⊢ wpd c (Prog.lift .deviceId : Code F (Dev nD)) Q := by
  unfold wpd
  simp only [Prog.lift, wp_deviceId]
  rw [wp_ret]
  iintro H; imodintro; iexact H

/-- A weight matrix loaded from staging: `Wq`, -/
theorem ldq_wp (X : (cc0_stg1_0 : Ref sig .tc).ty.Contents (Elt F)) (Q : Vec F S512x512 .f32 → sProp 𝕄) :
    pts c cc0_stg1_0 X ⊢ iprop((pts c cc0_stg1_0 X -∗ Q X) -∗ wpd c (wload (Memref.whole cc0_stg1_0)) Q) := by
  unfold wpd wload Prog.lift
  iintro H Hk
  iapply (wp_load 𝒱₀ (c : Thread nD τ) none Set.univ (m := Memref.whole cc0_stg1_0) (Finset.subset_univ _)) $$ H
  iintro H
  rw [wp_ret]; imodintro
  rw [show (Memref.whole cc0_stg1_0).view.readAt (Elt F) (Rect.unit (s := S512x512) ![0, 0] S512x512.size inb_S512x512_S512x512_0_0).toLoadRect X = X
    from Memref.readAt_unit_zero (Elt F) cc0_stg1_0 hz2 _ X]
  iapply Hk
  iexact H

/-- `Wo`, -/
theorem ldo_wp (X : (cc0_stg2_0 : Ref sig .tc).ty.Contents (Elt F)) (Q : Vec F S512x512 .f32 → sProp 𝕄) :
    pts c cc0_stg2_0 X ⊢ iprop((pts c cc0_stg2_0 X -∗ Q X) -∗ wpd c (wload (Memref.whole cc0_stg2_0)) Q) := by
  unfold wpd wload Prog.lift
  iintro H Hk
  iapply (wp_load 𝒱₀ (c : Thread nD τ) none Set.univ (m := Memref.whole cc0_stg2_0) (Finset.subset_univ _)) $$ H
  iintro H
  rw [wp_ret]; imodintro
  rw [show (Memref.whole cc0_stg2_0).view.readAt (Elt F) (Rect.unit (s := S512x512) ![0, 0] S512x512.size inb_S512x512_S512x512_0_0).toLoadRect X = X
    from Memref.readAt_unit_zero (Elt F) cc0_stg2_0 hz2 _ X]
  iapply Hk
  iexact H

/-- `Wk`, -/
theorem ldk_wp (X : (cc0_stg3_0 : Ref sig .tc).ty.Contents (Elt F)) (Q : Vec F S512x512 .f32 → sProp 𝕄) :
    pts c cc0_stg3_0 X ⊢ iprop((pts c cc0_stg3_0 X -∗ Q X) -∗ wpd c (wload (Memref.whole cc0_stg3_0)) Q) := by
  unfold wpd wload Prog.lift
  iintro H Hk
  iapply (wp_load 𝒱₀ (c : Thread nD τ) none Set.univ (m := Memref.whole cc0_stg3_0) (Finset.subset_univ _)) $$ H
  iintro H
  rw [wp_ret]; imodintro
  rw [show (Memref.whole cc0_stg3_0).view.readAt (Elt F) (Rect.unit (s := S512x512) ![0, 0] S512x512.size inb_S512x512_S512x512_0_0).toLoadRect X = X
    from Memref.readAt_unit_zero (Elt F) cc0_stg3_0 hz2 _ X]
  iapply Hk
  iexact H

/-- and `Wv`. -/
theorem ldv_wp (X : (cc0_stg4_0 : Ref sig .tc).ty.Contents (Elt F)) (Q : Vec F S512x512 .f32 → sProp 𝕄) :
    pts c cc0_stg4_0 X ⊢ iprop((pts c cc0_stg4_0 X -∗ Q X) -∗ wpd c (wload (Memref.whole cc0_stg4_0)) Q) := by
  unfold wpd wload Prog.lift
  iintro H Hk
  iapply (wp_load 𝒱₀ (c : Thread nD τ) none Set.univ (m := Memref.whole cc0_stg4_0) (Finset.subset_univ _)) $$ H
  iintro H
  rw [wp_ret]; imodintro
  rw [show (Memref.whole cc0_stg4_0).view.readAt (Elt F) (Rect.unit (s := S512x512) ![0, 0] S512x512.size inb_S512x512_S512x512_0_0).toLoadRect X = X
    from Memref.readAt_unit_zero (Elt F) cc0_stg4_0 hz2 _ X]
  iapply Hk
  iexact H

/-- The tokens loaded from staging; -/
theorem ldx_wp (X : (cc0_stg0_0 : Ref sig .tc).ty.Contents (Elt F)) (Q : Vec F S2x128x512 .f32 → sProp 𝕄) :
    pts c cc0_stg0_0 X ⊢ iprop((pts c cc0_stg0_0 X -∗ Q X)
      -∗ wpd c (Prog.lift (.load (Memref.whole cc0_stg0_0) (Rect.unit (s := S2x128x512) ![0, 0, 0] S2x128x512.size inb_S2x128x512_S2x128x512_0_0_0).toLoadRect
          (View.loadsAt_vmem h_S2x128x512)) : Code F (Vec F S2x128x512 .f32)) Q) := by
  unfold wpd Prog.lift
  iintro H Hk
  iapply (wp_load 𝒱₀ (c : Thread nD τ) none Set.univ (m := Memref.whole cc0_stg0_0) (Finset.subset_univ _)) $$ H
  iintro H
  rw [wp_ret]; imodintro
  rw [show (Memref.whole cc0_stg0_0).view.readAt (Elt F) (Rect.unit (s := S2x128x512) ![0, 0, 0] S2x128x512.size inb_S2x128x512_S2x128x512_0_0_0).toLoadRect X = X
    from Memref.readAt_unit_zero (Elt F) cc0_stg0_0 hz3 _ X]
  iapply Hk
  iexact H

/-- the result's staging loaded, -/
theorem ldy_wp (X : (cc0_stg5_0 : Ref sig .tc).ty.Contents (Elt F)) (Q : Vec F S2x128x512 .f32 → sProp 𝕄) :
    pts c cc0_stg5_0 X ⊢ iprop((pts c cc0_stg5_0 X -∗ Q X)
      -∗ wpd c (Prog.lift (.load (Memref.whole cc0_stg5_0) (Rect.unit (s := S2x128x512) ![0, 0, 0] S2x128x512.size inb_S2x128x512_S2x128x512_0_0_0).toLoadRect
          (View.loadsAt_vmem h_S2x128x512)) : Code F (Vec F S2x128x512 .f32)) Q) := by
  unfold wpd Prog.lift
  iintro H Hk
  iapply (wp_load 𝒱₀ (c : Thread nD τ) none Set.univ (m := Memref.whole cc0_stg5_0) (Finset.subset_univ _)) $$ H
  iintro H
  rw [wp_ret]; imodintro
  rw [show (Memref.whole cc0_stg5_0).view.readAt (Elt F) (Rect.unit (s := S2x128x512) ![0, 0, 0] S2x128x512.size inb_S2x128x512_S2x128x512_0_0_0).toLoadRect X = X
    from Memref.readAt_unit_zero (Elt F) cc0_stg5_0 hz3 _ X]
  iapply Hk
  iexact H

/-- and stored. -/
theorem sty_wp (X Y : (cc0_stg5_0 : Ref sig .tc).ty.Contents (Elt F)) (Q : PUnit → sProp 𝕄) :
    pts c cc0_stg5_0 X ⊢ iprop((pts c cc0_stg5_0 Y -∗ Q ⟨⟩)
      -∗ wpd c (Prog.lift (.store (Memref.whole cc0_stg5_0) (Rect.unit (s := S2x128x512) ![0, 0, 0] S2x128x512.size inb_S2x128x512_S2x128x512_0_0_0)
          Y Finset.univ (View.stores_vmem_bits_univ h_S2x128x512 rfl) (.inl rfl)) : Code F PUnit) Q) := by
  unfold wpd Prog.lift
  iintro H Hk
  iapply (wp_store 𝒱₀ (c : Thread nD τ) none Set.univ (m := Memref.whole cc0_stg5_0)
    (r := Rect.unit (s := S2x128x512) ![0, 0, 0] S2x128x512.size inb_S2x128x512_S2x128x512_0_0_0) (Mk := Finset.univ) (Finset.subset_univ _)) $$ H
  iintro H
  rw [wp_ret]; imodintro
  rw [show ((Memref.whole cc0_stg5_0).access (Rect.unit (s := S2x128x512) ![0, 0, 0] S2x128x512.size inb_S2x128x512_S2x128x512_0_0_0) : View sig .tc _ _ _).write (Elt F) X Y Finset.univ = Y
    from Memref.write_access_unit_zero_univ (Elt F) cc0_stg5_0 hz3 _ X Y]
  iapply Hk
  iexact H

/-! ## What a device holds before and after -/

/-- What a device holds towards the devices `k + 1` away: the five duties it pays there and its positions at its four
    transfer cells of that distance. -/
def perK (k : Fin 3) : sProp 𝕄 :=
  iprop((dutyTok ER (barCell (up c k)) 0 k ∗ dutyTok ER (xcell c (0, k)) 0 0 ∗ dutyTok ER (xcell (up c k) (1, k)) 0 0 ∗ dutyTok ER (xcell c (2, k)) 0 0
      ∗ dutyTok ER (xcell (dn c k) (3, k)) 0 0)
    ∗ atPos ER (xcell c (0, k)) 0 ∅ 0 ∗ atPos ER (xcell c (1, k)) 0 ∅ 0 ∗ atPos ER (xcell c (2, k)) 0 ∅ 0 ∗ atPos ER (xcell c (3, k)) 0 ∅ 0)

/-- The credits it is launched with: its barrier's three units, and each slot of tokens and partials it is to receive. -/
def creds : sProp 𝕄 :=
  iprop(cred (tallyAt (barCell c) () 3)
    ∗ (cred (tallyAt (xcell c (1, 0)) () N) ∗ cred (tallyAt (xcell c (1, 1)) () N) ∗ cred (tallyAt (xcell c (1, 2)) () N))
    ∗ cred (tallyAt (xcell c (3, 0)) () N) ∗ cred (tallyAt (xcell c (3, 1)) () N) ∗ cred (tallyAt (xcell c (3, 2)) () N))

/-- Its four scratch buffers. -/
def scratch : sProp 𝕄 := iprop(anyBuf (F := F) c cc0_scratch0 ∗ anyBuf (F := F) c cc0_scratch1 ∗ anyBuf (F := F) c cc0_scratch2 ∗ anyBuf (F := F) c cc0_scratch3)

/-- Its inputs in staging. -/
def inputs : sProp 𝕄 :=
  iprop(pts c cc0_stg0_0 (stgx m ρ c) ∗ pts c cc0_stg1_0 (stgq m ρ c) ∗ pts c cc0_stg2_0 (stgo m ρ c) ∗ pts c cc0_stg3_0 (stgk m ρ c) ∗ pts c cc0_stg4_0 (stgv m ρ c))

/-- Its semaphore counters at zero. -/
def zeros : sProp 𝕄 := iprop(semVal (barCell c) 0 ∗ bigSep Finset.univ fun x : Fin 4 × Fin 3 => semVal (xcell c x) 0)

theorem zeros_intro :
    iprop(semVal (barCell c) 0
      ∗ (semVal (xcell c (0, 0)) 0 ∗ semVal (xcell c (0, 1)) 0 ∗ semVal (xcell c (0, 2)) 0) ∗ (semVal (xcell c (1, 0)) 0 ∗ semVal (xcell c (1, 1)) 0 ∗ semVal (xcell c (1, 2)) 0)
      ∗ (semVal (xcell c (2, 0)) 0 ∗ semVal (xcell c (2, 1)) 0 ∗ semVal (xcell c (2, 2)) 0) ∗ (semVal (xcell c (3, 0)) 0 ∗ semVal (xcell c (3, 1)) 0 ∗ semVal (xcell c (3, 2)) 0))
      ⊢ (zeros c : sProp 𝕄) := by
  unfold zeros
  rw [bigSep_univ_prod, bigSep_four, bigSep_three, bigSep_three, bigSep_three, bigSep_three]

/-- The slots' receipts of the three turns, as the buffer of tokens. -/
theorem fold_out (a b d : FVec F S256x512 .bf16) {r0 r1 r2 : Vec F S1x256x512 .bf16} (p : FVec F S256x512 .f32)
    (h0 : flat r0 = a) (h2 : flat r2 = b) (h1 : flat r1 = d) :
    addTo (addTo (addTo p r0) r2) r1 = addTo (addTo (addTo p (lift3 a)) (lift3 b)) (lift3 d) := by
  rw [addTo_flat _ h1, addTo_flat _ h2, addTo_flat _ h0]

/-! ## The body -/

/-- The kernel's body on its buffers. -/
abbrev theBody : Code F PUnit :=
  body (Memref.whole cc0_stg0_0) (Memref.whole cc0_stg1_0) (Memref.whole cc0_stg2_0) (Memref.whole cc0_stg3_0) (Memref.whole cc0_stg4_0) (Memref.whole cc0_stg5_0)
    comm (Memref.isWhole_whole _) oM (Memref.isWhole_whole _) snd (Memref.isWhole_whole _) rcv (Memref.isWhole_whole _) cc0_scratch4 cc0_scratch5 cc0_scratch6 cc0_scratch7

set_option maxHeartbeats 1000000 in
/-- A device's run of the body. -/
theorem body_wp (Q : PUnit → sProp 𝕄) :
    iprop(records (F := F) m ρ K ∗ ow c debts ∗ atPos ER (barCell c) 0 ∅ 0 ∗ creds c ∗ (perK c 0 ∗ perK c 1 ∗ perK c 2) ∗ scratch c
        ∗ inputs m ρ c ∗ ∃ Y, pts c cc0_stg5_0 Y)
      ⊢ iprop((ow c [] -∗ zeros c -∗ scratch c -∗ inputs m ρ c -∗ pts c cc0_stg5_0 (outAt m ρ c) -∗ Q ⟨⟩) -∗ wpd c theBody Q) := by
  unfold perK creds inputs scratch
  iintro ⟨#HR, HO, HatB, ⟨HcB, ⟨Hc10, Hc11, Hc12⟩, Hc30, Hc31, Hc32⟩,
    ⟨⟨⟨Htb0, Ht00, Ht10, Ht20, Ht30⟩, Ha00, Ha10, Ha20, Ha30⟩, ⟨⟨Htb1, Ht01, Ht11, Ht21, Ht31⟩, Ha01, Ha11, Ha21, Ha31⟩,
      ⟨⟨Htb2, Ht02, Ht12, Ht22, Ht32⟩, Ha02, Ha12, Ha22, Ha32⟩⟩,
    ⟨Hcomm, Ho, Hsnd, Hrcv⟩, ⟨Hsx, Hsq, Hso, Hsk, Hsv⟩, ⟨%Y, Hsy⟩⟩ Hk
  ihave ⟨Hm0, Hm1, Hm2, Hm3⟩ := (split4 c) $$ Hcomm
  ihave ⟨Hs0, Hs1, Hs2⟩ := (splits c) $$ Hsnd
  ihave ⟨Hr0, Hr1, Hr2⟩ := (splitr c) $$ Hrcv
  unfold theBody body
  rw [wpd_bind]
  iapply (devid_wp c _)
  dsimp only
  -- the three signals
  rw [wpd_bind]
  iapply (signal_wp m ρ K c _ 0 [(0, 2), (0, 1), (1, 0), (1, 2), (1, 1), (2, 0), (2, 2), (2, 1)] _ (dev1_eq c)) $$ [HO Htb0 Hm3 Hr0]
  · isplitr; · iexact HR
    isplitl [HO]; · iexact HO
    isplitl [Htb0]; · iexact Htb0
    isplitl [Hm3]; · iexact Hm3
    iexact Hr0
  iintro HO
  rw [wpd_bind]
  iapply (signal_wp m ρ K c _ 2 [(0, 1), (1, 0), (1, 2), (1, 1), (2, 0), (2, 2), (2, 1)] _ (dev2_eq c)) $$ [HO Htb2 Hm1 Hr2]
  · isplitr; · iexact HR
    isplitl [HO]; · iexact HO
    isplitl [Htb2]; · iexact Htb2
    isplitl [Hm1]; · iexact Hm1
    iexact Hr2
  iintro HO
  rw [wpd_bind]
  iapply (signal_wp m ρ K c _ 1 [(1, 0), (1, 2), (1, 1), (2, 0), (2, 2), (2, 1)] _ (dev3_eq c)) $$ [HO Htb1 Hm2 Hr1]
  · isplitr; · iexact HR
    isplitl [HO]; · iexact HO
    isplitl [Htb1]; · iexact Htb1
    isplitl [Hm2]; · iexact Hm2
    iexact Hr1
  iintro HO
  -- the barrier
  rw [wpd_bind]
  iapply (barwait_wp m ρ K c _ [(1, 0), (1, 2), (1, 1), (2, 0), (2, 2), (2, 1)] (by decide)) $$ [HO HcB HatB]
  · isplitr; · iexact HR
    isplitl [HO]; · iexact HO
    isplitl [HcB] <;> iassumption
  iintro HO Hp0 Hp1 Hp2 HzB
  unfold barPay
  icases Hp0 with ⟨Hu2, Hd0⟩
  icases Hp1 with ⟨Hu1, Hd1⟩
  icases Hp2 with ⟨Hu0, Hd2⟩
  ihave Hu2 := (show some4 (dn c 0) (Fin.rev 0).succ ⊢ (some4 (up c 2) (Fin.succ 2) : sProp 𝕄) from Entails.of_eq (by rw [← up_rev c 0]; rfl)) $$ Hu2
  ihave Hu1 := (show some4 (dn c 1) (Fin.rev 1).succ ⊢ (some4 (up c 1) (Fin.succ 1) : sProp 𝕄) from Entails.of_eq (by rw [← up_rev c 1]; rfl)) $$ Hu1
  ihave Hu0 := (show some4 (dn c 2) (Fin.rev 2).succ ⊢ (some4 (up c 0) (Fin.succ 0) : sProp 𝕄) from Entails.of_eq (by rw [← up_rev c 2]; rfl)) $$ Hu0
  -- the loads
  rw [wpd_bind]
  iapply (ldq_wp c _ _) $$ Hsq; iintro Hsq
  rw [wpd_bind]
  iapply (ldk_wp c _ _) $$ Hsk; iintro Hsk
  rw [wpd_bind]
  iapply (ldv_wp c _ _) $$ Hsv; iintro Hsv
  rw [wpd_bind]
  iapply (ldo_wp c _ _) $$ Hso; iintro Hso
  rw [wpd_bind]
  iapply (ldx_wp c _ _) $$ Hsx; iintro Hsx
  unfold some4
  icases Hm0 with ⟨%X0, Hm0⟩
  rw [wpd_bind]
  iapply (xload_wp c comm 0 fullShare X0 _) $$ Hm0
  iintro %x0 %hx0 Hm0
  rw [wpd_bind]
  iapply (xstore_wp c comm (Memref.isWhole_whole _) X0 (xb m ρ c) _) $$ Hm0
  iintro Hm0
  ihave ⟨⟨Hl0, Hl1⟩, Hl2, Hkept⟩ := (shares c (cslot 0) (xb m ρ c)).1 $$ Hm0
  -- the gather
  rw [wpd_bind]
  iapply (gsend_wp m ρ K c _ 0 [(1, 2), (1, 1), (2, 0), (2, 2), (2, 1)] _ (dev4_eq c)) $$ [HO Hl0 Hu0 Ht00 Ht10]
  · isplitr; · iexact HR
    isplitl [HO]; · iexact HO
    isplitl [Hl0]; · iexact Hl0
    isplitl [Hu0]; · unfold some4; iexact Hu0
    isplitl [Ht00] <;> iassumption
  iintro HO Hc00
  rw [wpd_bind]
  iapply (gsend_wp m ρ K c _ 2 [(1, 1), (2, 0), (2, 2), (2, 1)] _ (dev5_eq c)) $$ [HO Hl2 Hu2 Ht02 Ht12]
  · isplitr; · iexact HR
    isplitl [HO]; · iexact HO
    isplitl [Hl2]; · iexact Hl2
    isplitl [Hu2]; · unfold some4; iexact Hu2
    isplitl [Ht02] <;> iassumption
  iintro HO Hc02
  rw [wpd_bind]
  iapply (gsend_wp m ρ K c _ 1 [(2, 0), (2, 2), (2, 1)] _ (dev6_eq c)) $$ [HO Hl1 Hu1 Ht01 Ht11]
  · isplitr; · iexact HR
    isplitl [HO]; · iexact HO
    isplitl [Hl1]; · iexact Hl1
    isplitl [Hu1]; · unfold some4; iexact Hu1
    isplitl [Ht01] <;> iassumption
  iintro HO Hc01
  -- its own partial
  rw [wpd_bind]
  iapply (attnAt_wp c (wt (stgq m ρ c)) (wt (stgk m ρ c)) (wt (stgv m ρ c)) 0 kept (xb m ρ c) _) $$ [Hkept Ho]
  · isplitl [Hkept] <;> iassumption
  iintro Hkept Ho
  -- the turns
  rw [wpd_bind]
  iapply (turn_wp m ρ K c _ 0 [(2, 2), (2, 1)] (by decide) _ (dev7_eq c)) $$ [HO Hc10 Ha10 Ht20 Ht30 Ho Hs0 Hd0]
  · isplitr; · iexact HR
    isplitl [HO]; · iexact HO
    isplitl [Hc10 Ha10 Ht20 Ht30]
    · isplitl [Hc10]; · iexact Hc10
      isplitl [Ha10]; · iexact Ha10
      isplitl [Ht20] <;> iassumption
    isplitl [Ho]; · iexact Ho
    isplitl [Hs0] <;> iassumption
  iintro HO Hc20 Hz10 Ho Hm1
  rw [wpd_bind]
  iapply (turn_wp m ρ K c _ 2 [(2, 1)] (by decide) _ (dev8_eq c)) $$ [HO Hc12 Ha12 Ht22 Ht32 Ho Hs2 Hd2]
  · isplitr; · iexact HR
    isplitl [HO]; · iexact HO
    isplitl [Hc12 Ha12 Ht22 Ht32]
    · isplitl [Hc12]; · iexact Hc12
      isplitl [Ha12]; · iexact Ha12
      isplitl [Ht22] <;> iassumption
    isplitl [Ho]; · iexact Ho
    isplitl [Hs2] <;> iassumption
  iintro HO Hc22 Hz12 Ho Hm3
  rw [wpd_bind]
  iapply (turn_wp m ρ K c _ 1 [] (by decide) _ (dev9_eq c)) $$ [HO Hc11 Ha11 Ht21 Ht31 Ho Hs1 Hd1]
  · isplitr; · iexact HR
    isplitl [HO]; · iexact HO
    isplitl [Hc11 Ha11 Ht21 Ht31]
    · isplitl [Hc11]; · iexact Hc11
      isplitl [Ha11]; · iexact Ha11
      isplitl [Ht21] <;> iassumption
    isplitl [Ho]; · iexact Ho
    isplitl [Hs1] <;> iassumption
  iintro HO Hc21 Hz11 Ho Hm2
  -- the partials received
  rw [wpd_bind]
  iapply (pwait_wp m ρ K c _ 0) $$ [HO Hc30 Ha30]
  · isplitr; · iexact HR
    isplitl [HO]; · iexact HO
    isplitl [Hc30] <;> iassumption
  iintro HO Hr0 Hz30
  ihave Hr0 := (Entails.of_eq (xPay_3 m ρ c 0)) $$ Hr0
  rw [wpd_bind]
  iapply (sload_wp c rcv 0 fullShare (part m ρ (up c 0) c) _) $$ Hr0
  iintro %r0 %hr0 Hr0
  rw [wpd_bind]
  iapply (pwait_wp m ρ K c _ 2) $$ [HO Hc32 Ha32]
  · isplitr; · iexact HR
    isplitl [HO]; · iexact HO
    isplitl [Hc32] <;> iassumption
  iintro HO Hr2 Hz32
  ihave Hr2 := (Entails.of_eq (xPay_3 m ρ c 2)) $$ Hr2
  rw [wpd_bind]
  iapply (sload_wp c rcv 2 fullShare (part m ρ (up c 2) c) _) $$ Hr2
  iintro %r2 %hr2 Hr2
  rw [wpd_bind]
  iapply (pwait_wp m ρ K c _ 1) $$ [HO Hc31 Ha31]
  · isplitr; · iexact HR
    isplitl [HO]; · iexact HO
    isplitl [Hc31] <;> iassumption
  iintro HO Hr1 Hz31
  ihave Hr1 := (Entails.of_eq (xPay_3 m ρ c 1)) $$ Hr1
  rw [wpd_bind]
  iapply (sload_wp c rcv 1 fullShare (part m ρ (up c 1) c) _) $$ Hr1
  iintro %r1 %hr1 Hr1
  -- the sum
  rw [wpd_bind]
  iapply (ldy_wp c Y _) $$ Hsy; iintro Hsy
  rw [wpd_bind]
  iapply (sty_wp c Y _ _) $$ Hsy; iintro Hsy
  -- the transfers sent
  rw [wpd_bind]
  iapply (gdone_wp m ρ K c _ 0) $$ [HO Hc00 Ha00]
  · isplitr; · iexact HR
    isplitl [HO]; · iexact HO
    isplitl [Hc00] <;> iassumption
  iintro HO Hy00 Hz00
  ihave Hy00 := (Entails.of_eq (xPay_0 m ρ c 0)) $$ Hy00
  rw [wpd_bind]
  iapply (pdone_wp m ρ K c _ 0) $$ [HO Hc20 Ha20]
  · isplitr; · iexact HR
    isplitl [HO]; · iexact HO
    isplitl [Hc20] <;> iassumption
  iintro HO Hy20 Hz20
  ihave Hy20 := (Entails.of_eq (xPay_2 m ρ c 0)) $$ Hy20
  rw [wpd_bind]
  iapply (gdone_wp m ρ K c _ 2) $$ [HO Hc02 Ha02]
  · isplitr; · iexact HR
    isplitl [HO]; · iexact HO
    isplitl [Hc02] <;> iassumption
  iintro HO Hy02 Hz02
  ihave Hy02 := (Entails.of_eq (xPay_0 m ρ c 2)) $$ Hy02
  rw [wpd_bind]
  iapply (pdone_wp m ρ K c _ 2) $$ [HO Hc22 Ha22]
  · isplitr; · iexact HR
    isplitl [HO]; · iexact HO
    isplitl [Hc22] <;> iassumption
  iintro HO Hy22 Hz22
  ihave Hy22 := (Entails.of_eq (xPay_2 m ρ c 2)) $$ Hy22
  rw [wpd_bind]
  iapply (gdone_wp m ρ K c _ 1) $$ [HO Hc01 Ha01]
  · isplitr; · iexact HR
    isplitl [HO]; · iexact HO
    isplitl [Hc01] <;> iassumption
  iintro HO Hy01 Hz01
  ihave Hy01 := (Entails.of_eq (xPay_0 m ρ c 1)) $$ Hy01
  iapply (pdone_wp m ρ K c _ 1) $$ [HO Hc21 Ha21]
  · isplitr; · iexact HR
    isplitl [HO]; · iexact HO
    isplitl [Hc21] <;> iassumption
  iintro HO Hy21 Hz21
  ihave Hy21 := (Entails.of_eq (xPay_2 m ρ c 1)) $$ Hy21
  iapply Hk $$ HO [HzB Hz00 Hz01 Hz02 Hz10 Hz11 Hz12 Hz20 Hz21 Hz22 Hz30 Hz31 Hz32] [Hy00 Hy01 Hy02 Hkept Hm1 Hm2 Hm3 Ho Hy20 Hy21 Hy22 Hr0 Hr1 Hr2] [Hsx Hsq Hso Hsk Hsv] [Hsy]
  · iapply (zeros_intro c)
    isplitl [HzB]; · iexact HzB
    isplitl [Hz00 Hz01 Hz02]
    · isplitl [Hz00]; · iexact Hz00
      isplitl [Hz01] <;> iassumption
    isplitl [Hz10 Hz11 Hz12]
    · isplitl [Hz10]; · iexact Hz10
      isplitl [Hz11] <;> iassumption
    isplitl [Hz20 Hz21 Hz22]
    · isplitl [Hz20]; · iexact Hz20
      isplitl [Hz21] <;> iassumption
    isplitl [Hz30]; · iexact Hz30
    isplitl [Hz31] <;> iassumption
  · isplitl [Hy00 Hy01 Hy02 Hkept Hm1 Hm2 Hm3]
    · iapply (join4 c)
      isplitl [Hy00 Hy01 Hy02 Hkept]
      · unfold some4
        iexists _
        iapply (shares c (cslot 0) (xb m ρ c)).2
        isplitl [Hy00 Hy01]
        · isplitl [Hy00] <;> iassumption
        isplitl [Hy02] <;> iassumption
      unfold some4
      isplitl [Hm1]; · iexact Hm1
      isplitl [Hm2]; · iexact Hm2
      iexact Hm3
    isplitl [Ho]; · iexact Ho
    isplitl [Hy20 Hy21 Hy22]
    · iapply (joins c)
      unfold somes
      isplitl [Hy20]; · iexists _; iexact Hy20
      isplitl [Hy21]; · iexists _; iexact Hy21
      iexists _; iexact Hy22
    iapply (joinr c)
    unfold somer
    isplitl [Hr0]; · iexists _; iexact Hr0
    isplitl [Hr1]; · iexists _; iexact Hr1
    iexists _; iexact Hr2
  · isplitl [Hsx]; · iexact Hsx
    isplitl [Hsq]; · iexact Hsq
    isplitl [Hso]; · iexact Hso
    isplitl [Hsk] <;> iassumption
  · ihave Hsy := (show _ ⊢ pts c cc0_stg5_0 (outAt m ρ c) from Entails.of_eq (by
      unfold outAt
      rw [← fold_out _ _ _ (full m ρ c c) hr0 hr2 hr1]
      rfl)) $$ Hsy
    iexact Hsy

/-! ## The pipeline's proof data -/

/-- What a device starts from: the records, its position at its barrier, what it holds by distance, its credits. -/
def start : sProp 𝕄 :=
  iprop((∃ K : Dev nD × Option (Fin 4 × Fin 3) → ℕ, records m ρ K ∗ atPos ER (barCell c) 0 ∅ 0 ∗ perK c 0 ∗ perK c 1 ∗ perK c 2) ∗ creds c)

def Φ₀ : sProp 𝕄 := iprop(start m ρ c ∗ scratch c)
def Φ₁ : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgx m ρ c
    | ⟨1, _⟩ => stgq m ρ c
    | ⟨2, _⟩ => stgo m ρ c
    | ⟨3, _⟩ => stgk m ρ c
    | ⟨4, _⟩ => stgv m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_pts (b : Ref sig .tc) (X : b.ty.Contents (Elt F)) : stg c b X ⊣⊢ (pts c b X : sProp 𝕄) := by
  constructor
  · iintro ⟨%f, %h, H⟩
    subst h
    iexact H
  · iintro H
    iexists X
    isplitr; · (ipureintro; rfl)
    iexact H

def bodyPre : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))

def bodyPost : sProp 𝕄 :=
  iprop(Φ₁ c ∗ (dats m ρ 0 c).owesAt () t₀.succ ∗ stg c cc0_stg0_0 (stgx m ρ c) ∗ stg c cc0_stg1_0 (stgq m ρ c) ∗ stg c cc0_stg2_0 (stgo m ρ c)
    ∗ stg c cc0_stg3_0 (stgk m ρ c) ∗ stg c cc0_stg4_0 (stgv m ρ c) ∗ stg c cc0_stg5_0 (outAt m ρ c))

theorem before_in (w : Fin 6) (h : (cfg0.win w).fetch t₀ = true) (d) : (dats (F := F) m ρ 0 c).before w t₀ d = (dats m ρ 0 c).fetched w t₀ d := by
  unfold Dat.before; rw [if_pos h]

theorem owesAt_first : (dats (F := F) m ρ 0 c).owesAt () t₀.castSucc ⊢ ow c debts := by
  unfold Dat.owesAt Pipeline.owesWithin ow
  iintro ⟨%W, %hW, HO⟩
  iexists W
  iexact HO

theorem owesAt_last : ow c [] ⊢ (dats (F := F) m ρ 0 c).owesAt () t₀.succ := by
  unfold Dat.owesAt Pipeline.owesWithin ow
  iintro ⟨%W, HO⟩
  iexists W
  isplitr; · ipureintro; exact fun _ _ => Or.inl trivial
  iexact HO

theorem sound_body : bodyPre m ρ c ⊢ wpd c theBody (fun _ => bodyPost m ρ c) := by
  unfold bodyPre Φ₀ start
  iintro ⟨⟨⟨⟨%K, #HR, Hat, Hk0, Hk1, Hk2⟩, Hcr⟩, Hscr⟩, HO, ⟨%d0, H0⟩, ⟨%d1, H1⟩, ⟨%d2, H2⟩, ⟨%d3, H3⟩, ⟨%d4, H4⟩, ⟨%d5, H5⟩⟩
  ihave HO := (owesAt_first m ρ c) $$ HO
  ihave H0 := (stg_pts c cc0_stg0_0 _).1 $$ H0
  ihave H1 := (stg_pts c cc0_stg1_0 _).1 $$ H1
  ihave H2 := (stg_pts c cc0_stg2_0 _).1 $$ H2
  ihave H3 := (stg_pts c cc0_stg3_0 _).1 $$ H3
  ihave H4 := (stg_pts c cc0_stg4_0 _).1 $$ H4
  ihave H5 := (stg_pts c cc0_stg5_0 _).1 $$ H5
  ihave H0 := (Entails.of_eq (congrArg (pts c cc0_stg0_0) ((before_in m ρ c 0 (by rfl) d0).trans (show _ = stgx m ρ c from rfl)))) $$ H0
  ihave H1 := (Entails.of_eq (congrArg (pts c cc0_stg1_0) ((before_in m ρ c 1 (by rfl) d1).trans (show _ = stgq m ρ c from rfl)))) $$ H1
  ihave H2 := (Entails.of_eq (congrArg (pts c cc0_stg2_0) ((before_in m ρ c 2 (by rfl) d2).trans (show _ = stgo m ρ c from rfl)))) $$ H2
  ihave H3 := (Entails.of_eq (congrArg (pts c cc0_stg3_0) ((before_in m ρ c 3 (by rfl) d3).trans (show _ = stgk m ρ c from rfl)))) $$ H3
  ihave H4 := (Entails.of_eq (congrArg (pts c cc0_stg4_0) ((before_in m ρ c 4 (by rfl) d4).trans (show _ = stgv m ρ c from rfl)))) $$ H4
  iapply (body_wp m ρ K c _) $$ [HO Hat Hcr Hk0 Hk1 Hk2 Hscr H0 H1 H2 H3 H4 H5]
  · isplitr; · iexact HR
    isplitl [HO]; · iexact HO
    isplitl [Hat]; · iexact Hat
    isplitl [Hcr]; · iexact Hcr
    isplitl [Hk0 Hk1 Hk2]
    · isplitl [Hk0]; · iexact Hk0
      isplitl [Hk1] <;> iassumption
    isplitl [Hscr]; · iexact Hscr
    isplitl [H0 H1 H2 H3 H4]
    · unfold inputs
      isplitl [H0]; · iexact H0
      isplitl [H1]; · iexact H1
      isplitl [H2]; · iexact H2
      isplitl [H3] <;> iassumption
    iexists _
    iexact H5
  iintro HO Hz Hscr Hin Hout
  unfold bodyPost Φ₁ inputs
  icases Hin with ⟨H0, H1, H2, H3, H4⟩
  isplitl [Hz Hscr]
  · isplitl [Hz] <;> iassumption
  isplitl [HO]; · iapply (owesAt_last m ρ c); iexact HO
  isplitl [H0]; · iapply (stg_pts c cc0_stg0_0 _).2; iexact H0
  isplitl [H1]; · iapply (stg_pts c cc0_stg1_0 _).2; iexact H1
  isplitl [H2]; · iapply (stg_pts c cc0_stg2_0 _).2; iexact H2
  isplitl [H3]; · iapply (stg_pts c cc0_stg3_0 _).2; iexact H3
  isplitl [H4]; · iapply (stg_pts c cc0_stg4_0 _).2; iexact H4
  iapply (stg_pts c cc0_stg5_0 _).2; iexact Hout

set_option maxRecDepth 8000 in
/-- The pipeline's obligation on a device's body. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpd c
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      comm (Memref.isWhole_whole _) oM (Memref.isWhole_whole _) snd (Memref.isWhole_whole _) rcv (Memref.isWhole_whole _) cc0_scratch4 cc0_scratch5 cc0_scratch6 cc0_scratch7)
    (fun _ => bodyPost m ρ c)
  rw [body_eq]
  exact sound_body m ρ c

end Cert.KProof
-- ==== Proof.Run.lean ====
/-
The run: the cells and their invariants set up from the launch's ghost state, the duties dealt to the devices that pay
them, the launch's credits, and the whole program's runs.
-/
module

public import proofs.«01_k».proof.Proof.Device
public import Idealize.ShloMosaic.Lib.Pipeline.CollectiveSegs

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "Cell" => Option (Fin 4 × Fin 3)

variable (m : (ℓ : Loc nD τ sig) → Buf (Elt F) ℓ) (ρ : Dev nD → PrngReg)

/-! ## Sums over the cells -/

/-- Over an optional index: the absent one and the others. -/
theorem bigSep_opt {T : Type} [Fintype T] [DecidableEq T] (Φ : Option T → sProp 𝕄) :
    bigSep Finset.univ Φ = iprop(Φ none ∗ bigSep Finset.univ fun x => Φ (some x)) := by
  rw [show (Finset.univ : Finset (Option T)) = insert none (Finset.univ.map Function.Embedding.some) from by
        ext x; cases x <;> simp]
  rw [BI.bigSep_insert (by simp), BI.bigSep_map]
  rfl

/-- Over the transfer cells: by array and number. -/
theorem bigSep_x (Φ : Fin 4 × Fin 3 → sProp 𝕄) :
    bigSep Finset.univ Φ = iprop((Φ (0, 0) ∗ Φ (0, 1) ∗ Φ (0, 2)) ∗ (Φ (1, 0) ∗ Φ (1, 1) ∗ Φ (1, 2)) ∗ (Φ (2, 0) ∗ Φ (2, 1) ∗ Φ (2, 2)) ∗ (Φ (3, 0) ∗ Φ (3, 1) ∗ Φ (3, 2))) := by
  rw [bigSep_univ_prod, bigSep_four, bigSep_three, bigSep_three, bigSep_three, bigSep_three]

/-! ## The cells and the duties -/

theorem csem_inj : Function.Injective csem := by
  intro a b h
  cases a with
  | none => cases b with
    | none => rfl
    | some y => exact absurd h.symm (xsem_ne_bar y)
  | some x => cases b with
    | none => exact absurd h (xsem_ne_bar x)
    | some y => exact congrArg some (xsem_inj h)

theorem kcell_inj : Function.Injective (kcell : Dev nD × Cell → GSem nD τ sig) := by
  rintro ⟨c, k⟩ ⟨c', k'⟩ h
  have h1 : c = c' := congrArg (fun g : GSem nD τ sig => g.1.1) h
  have h2 : k = k' := csem_inj (congrArg Prod.snd h)
  rw [h1, h2]

def theCells : Finset (GSem nD τ sig) := Finset.univ.map ⟨kcell, kcell_inj⟩

/-- A duty of a device's own cells: at its barrier cell the one numbered `k`, at a transfer cell the only one. -/
abbrev tokOf (t : Dev nD × Fin 3 × Option (Fin 4)) : GSem nD τ sig × ℕ × Fin 3 :=
  match t.2.2 with
  | none => (barCell t.1, 0, t.2.1)
  | some a => (xcell t.1 (a, t.2.1), 0, 0)

theorem tokOf_inj : Function.Injective tokOf := by
  rintro ⟨c, k, a⟩ ⟨c', k', a'⟩ h
  cases a with
  | none => cases a' with
    | none =>
      have h1 := kcell_inj (congrArg Prod.fst h)
      have h2 : k = k' := congrArg (fun x : GSem nD τ sig × ℕ × Fin 3 => x.2.2) h
      have h3 : c = c' := (Prod.mk.inj h1).1
      rw [h2, h3]
    | some b => exact absurd (kcell_inj (congrArg Prod.fst h)) (fun e => by cases (Prod.mk.inj e).2)
  | some a => cases a' with
    | none => exact absurd (kcell_inj (congrArg Prod.fst h)) (fun e => by cases (Prod.mk.inj e).2)
    | some b =>
      have h1 := kcell_inj (congrArg Prod.fst h)
      have h2 := Prod.mk.inj (Option.some.inj (Prod.mk.inj h1).2)
      have h3 : c = c' := (Prod.mk.inj h1).1
      have h4 : k = k' := h2.2
      rw [h3, h4, h2.1]

def theToks : Finset (GSem nD τ sig × ℕ × Fin 3) := Finset.univ.map ⟨tokOf, tokOf_inj⟩

def u₀ : UU := (initOf (Pipeline.cells cfgs cellOf_inj) (Pipeline.launchToks cfgs cellOf_inj), initOf theCells theToks)

variable (c : Dev nD)

/-- The duties of a device's own cells numbered `k`; -/
def own (k : Fin 3) : sProp 𝕄 :=
  iprop(dutyTok ER (barCell c) 0 k ∗ dutyTok ER (xcell c (0, k)) 0 0 ∗ dutyTok ER (xcell c (1, k)) 0 0 ∗ dutyTok ER (xcell c (2, k)) 0 0 ∗ dutyTok ER (xcell c (3, k)) 0 0)
/-- the duties it pays. -/
def pay (k : Fin 3) : sProp 𝕄 :=
  iprop(dutyTok ER (barCell (up c k)) 0 k ∗ dutyTok ER (xcell c (0, k)) 0 0 ∗ dutyTok ER (xcell (up c k) (1, k)) 0 0 ∗ dutyTok ER (xcell c (2, k)) 0 0
    ∗ dutyTok ER (xcell (dn c k) (3, k)) 0 0)

/-- A number's duties dealt to those who pay them. -/
theorem deal (k : Fin 3) : (bigSep Finset.univ fun c : Dev nD => (own c k : sProp 𝕄)) ⊢ bigSep Finset.univ fun c : Dev nD => pay c k := by
  unfold own pay
  rw [bigSep_sep', bigSep_sep', bigSep_sep', bigSep_sep', bigSep_sep', bigSep_sep', bigSep_sep', bigSep_sep',
    bigSep_univ_equiv (shift k) (fun c : Dev nD => (dutyTok ER (barCell c) 0 k : sProp 𝕄)),
    bigSep_univ_equiv (shift k) (fun c : Dev nD => (dutyTok ER (xcell c (1, k)) 0 0 : sProp 𝕄)),
    bigSep_univ_equiv (shift k).symm (fun c : Dev nD => (dutyTok ER (xcell c (3, k)) 0 0 : sProp 𝕄))]
  exact BIBase.Entails.refl

/-- What the launch deals a device. -/
def G : sProp 𝕄 :=
  iprop((bigSep Finset.univ fun k : Cell => roundState ER (sched m ρ) (kcell (c, k)) 0)
    ∗ (bigSep Finset.univ fun k : Cell => atPos ER (kcell (c, k)) 0 ∅ 0) ∗ (bigSep Finset.univ fun k : Cell => reached ER (kcell (c, k)) 0)
    ∗ own c 0 ∗ own c 1 ∗ own c 2)

/-- What it has once all cells are set up: but for the levels, what it starts from. -/
def G' : sProp 𝕄 :=
  iprop(∃ K : Dev nD × Cell → ℕ, (bigSep Finset.univ (fun ck => cellInv ER (sched m ρ) (K ck) (kcell ck)) ∗ bigSep Finset.univ (fun ck => reached ER (kcell ck) 0))
    ∗ atPos ER (barCell c) 0 ∅ 0 ∗ perK c 0 ∗ perK c 1 ∗ perK c 2)

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Cell => Φ (kcell (c, k)) := by
    unfold theCells; rw [bigSep_map, bigSep_univ_prod]; rfl
  have hT : bigSep theToks (fun x => (dutyTok ER x.1 x.2.1 x.2.2 : sProp 𝕄)) = bigSep Finset.univ fun c : Dev nD => iprop(own c 0 ∗ own c 1 ∗ own c 2) := by
    unfold theToks; rw [bigSep_map, bigSep_univ_prod]
    refine bigSep_congr fun c _ => ?_
    rw [bigSep_univ_prod, bigSep_three]
    simp only [bigSep_opt, bigSep_four]
    rfl
  iintro HX
  imod (Rounds.fund ER (sched m ρ) theCells theToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  have hG : bigSep Finset.univ (G m ρ) = iprop((bigSep Finset.univ fun c : Dev nD => bigSep Finset.univ fun k : Cell => roundState ER (sched m ρ) (kcell (c, k)) 0)
      ∗ (bigSep Finset.univ fun c : Dev nD => bigSep Finset.univ fun k : Cell => atPos ER (kcell (c, k)) 0 ∅ 0)
      ∗ (bigSep Finset.univ fun c : Dev nD => bigSep Finset.univ fun k : Cell => reached ER (kcell (c, k)) 0)
      ∗ bigSep Finset.univ fun c : Dev nD => iprop(own c 0 ∗ own c 1 ∗ own c 2)) := by
    rw [← bigSep_sep', ← bigSep_sep', ← bigSep_sep']
    rfl
  iapply (Entails.of_eq hG.symm)
  isplitl [Hst]; · iexact Hst
  isplitl [Hat]; · iexact Hat
  isplitl [Hr]; · iexact Hr
  iexact Htok

/-! ## The semaphores -/

theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) xsem c ∗ unscopedSems0 c)
      ⊢ (bigSep Finset.univ fun k : Cell => semVal (kcell (c, k)) 0 : sProp 𝕄) := by
  rw [unscopedSems0_eq, bigSep_opt]
  unfold Pipeline.ownSems0
  iintro ⟨HX, HB⟩
  isplitl [HB]; · iexact HB
  iexact HX

/-- A device's cells set up. -/
theorem core_alloc :
    iprop(Pipeline.ownSems0 (Ix := Unit) (Name := ℕ) (U := UU) (Lvl := ℕ) (Val := Elt F) (τ := τ) xsem c ∗ unscopedSems0 c ∗ G m ρ c)
      ⊢ |={Set.univ}=> iprop((bigSep Finset.univ fun k : Cell => iprop(∃ κ : ℕ, cellInv ER (sched m ρ) κ (kcell (c, k))))
          ∗ (bigSep Finset.univ fun k : Cell => atPos ER (kcell (c, k)) 0 ∅ 0) ∗ (bigSep Finset.univ fun k : Cell => reached ER (kcell (c, k)) 0)
          ∗ own c 0 ∗ own c 1 ∗ own c 2) := by
  unfold G
  iintro ⟨Hos, Hus, Hst, Hrest⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched m ρ) (kcell (c, k)) 0)
      ⊢ (|={Set.univ}=> bigSep Finset.univ fun k : Cell => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  iexact Hrest

/-- Positions and duties by distance. -/
theorem by_distance :
    iprop((bigSep Finset.univ fun k : Cell => atPos ER (kcell (c, k)) 0 ∅ 0) ∗ pay c 0 ∗ pay c 1 ∗ pay c 2)
      ⊢ (iprop(atPos ER (barCell c) 0 ∅ 0 ∗ perK c 0 ∗ perK c 1 ∗ perK c 2) : sProp 𝕄) := by
  rw [bigSep_opt, bigSep_x]
  unfold perK pay
  iintro ⟨⟨HB, ⟨H00, H01, H02⟩, ⟨H10, H11, H12⟩, ⟨H20, H21, H22⟩, H30, H31, H32⟩, P0, P1, P2⟩
  isplitl [HB]; · iexact HB
  isplitl [P0 H00 H10 H20 H30]
  · isplitl [P0]; · iexact P0
    isplitl [H00]; · iexact H00
    isplitl [H10]; · iexact H10
    isplitl [H20] <;> iassumption
  isplitl [P1 H01 H11 H21 H31]
  · isplitl [P1]; · iexact P1
    isplitl [H01]; · iexact H01
    isplitl [H11]; · iexact H11
    isplitl [H21] <;> iassumption
  isplitl [P2]; · iexact P2
  isplitl [H02]; · iexact H02
  isplitl [H12]; · iexact H12
  isplitl [H22] <;> iassumption

/-- What may be used again and again goes to every summand. -/
theorem share_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' parts put together and dealt again. -/
theorem regroup :
    (bigSep Finset.univ fun c : Dev nD => iprop((bigSep Finset.univ fun k : Cell => iprop(∃ κ : ℕ, cellInv ER (sched m ρ) κ (kcell (c, k))))
          ∗ (bigSep Finset.univ fun k : Cell => atPos ER (kcell (c, k)) 0 ∅ 0) ∗ (bigSep Finset.univ fun k : Cell => reached ER (kcell (c, k)) 0)
          ∗ own c 0 ∗ own c 1 ∗ own c 2) : sProp 𝕄)
      ⊢ bigSep Finset.univ (G' m ρ) := by
  rw [bigSep_sep', bigSep_sep', bigSep_sep', bigSep_sep', bigSep_sep', ← bigSep_univ_prod (fun ck : Dev nD × Cell => iprop(∃ κ : ℕ, cellInv ER (sched m ρ) κ (kcell ck))),
    ← bigSep_univ_prod (fun ck : Dev nD × Cell => (reached ER (kcell ck) 0 : sProp 𝕄))]
  iintro ⟨HI, Hat, #HR, H0, H1, H2⟩
  ihave HK := (BI.bigSep_exists_pi Finset.univ (fun (ck : Dev nD × Cell) (κ : ℕ) => (cellInv ER (sched m ρ) κ (kcell ck) : sProp 𝕄))) $$ HI
  icases HK with ⟨%K, #HI⟩
  ihave H0 := (deal (F := F) 0) $$ H0
  ihave H1 := (deal (F := F) 1) $$ H1
  ihave H2 := (deal (F := F) 2) $$ H2
  iapply (share_all (R := iprop(bigSep Finset.univ (fun ck => cellInv ER (sched m ρ) (K ck) (kcell ck)) ∗ bigSep Finset.univ (fun ck => reached ER (kcell ck) 0)))
    (Φ := fun c => iprop((bigSep Finset.univ fun k : Cell => atPos ER (kcell (c, k)) 0 ∅ 0) ∗ pay c 0 ∗ pay c 1 ∗ pay c 2)) (fun c _ => by
      show _ ⊢ G' m ρ c
      unfold G'
      iintro ⟨HR, H⟩
      iexists K
      isplitl [HR]; · iexact HR
      iapply (by_distance c)
      iexact H))
  isplitr
  · isplitr; · iexact HI
    iexact HR
  rw [bigSep_sep', bigSep_sep', bigSep_sep']
  isplitl [Hat]; · iexact Hat
  isplitl [H0]; · iexact H0
  isplitl [H1] <;> iassumption

/-- All semaphores of all devices at once. -/
theorem glob : (bigSep Finset.univ fun c => iprop(Pipeline.ownSems0 (Ix := Unit) (Name := ℕ) (U := UU) (Lvl := ℕ) (Val := Elt F) (τ := τ) xsem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

/-- The device, the cell and the amount of a payment. -/
abbrev whose : Fin 3 × Fin 3 → (Dev nD ≃ Dev nD) := fun | (0, k) => shift k | (1, k) => shift k | (2, k) => (shift k).symm
abbrev which : Fin 3 × Fin 3 → Cell := fun | (0, k) => none | (1, k) => some (1, k) | (2, k) => some (3, k)
abbrev howmuch : Fin 3 × Fin 3 → ℕ := fun | (0, _) => 1 | (1, _) => N | (2, _) => N

theorem debt_eq (d : Dev nD) (e : Fin 3 × Fin 3) : debt d e = (kcell (whose e d, which e), howmuch e) := by
  obtain ⟨a, k⟩ := e
  fin_cases a <;> rfl

theorem owing_apply (d : Dev nD) (g : GSem nD τ sig) (l : List (Fin 3 × Fin 3)) :
    owing d l g () = (l.map fun e => if g = (debt d e).1 then (debt d e).2 else 0).sum := by
  induction l with
  | nil => rfl
  | cons e l ih =>
    rw [List.map_cons, List.sum_cons, ← ih]
    show (owing d l + tallyAt (debt d e).1 () (debt d e).2) g () = _
    rw [Pi.add_apply, Finsupp.add_apply, tallyAt_apply, Nat.add_comm]
    congr 1
    exact if_congr (and_iff_left rfl) rfl rfl

theorem sum_debt (o : Cell) (e : Fin 3 × Fin 3) :
    (∑ d : Dev nD, if kcell (c, o) = (debt d e).1 then (debt d e).2 else 0) = if o = which e then howmuch e else 0 := by
  have h : ∀ d : Dev nD, (if kcell (c, o) = (debt d e).1 then (debt d e).2 else 0) = if d = (whose e).symm c then (if o = which e then howmuch e else 0) else 0 := by
    intro d
    rw [debt_eq]
    by_cases h1 : d = (whose e).symm c
    · subst h1
      rw [if_pos rfl, Equiv.apply_symm_apply]
      exact if_congr ⟨fun h => (Prod.mk.inj (kcell_inj h)).2, fun h => h ▸ rfl⟩ rfl rfl
    · rw [if_neg h1, if_neg]
      intro h2
      exact h1 (by rw [(Prod.mk.inj (kcell_inj h2)).1, Equiv.symm_apply_apply])
  rw [Finset.sum_congr rfl fun d _ => h d, Finset.sum_ite_eq', if_pos (Finset.mem_univ _)]

theorem sum_owing (o : Cell) (l : List (Fin 3 × Fin 3)) :
    (∑ d : Dev nD, owing d l (kcell (c, o)) ()) = (l.map fun e => if o = which e then howmuch e else 0).sum := by
  induction l with
  | nil => exact Finset.sum_const_zero
  | cons e l ih =>
    rw [List.map_cons, List.sum_cons, ← ih, ← sum_debt, ← Finset.sum_add_distrib]
    refine Finset.sum_congr rfl fun d _ => ?_
    rw [owing_apply, owing_apply, List.map_cons, List.sum_cons]

theorem launch_at (o : Cell) (n : ℕ) (h : (debts.map fun e => if o = which e then howmuch e else 0).sum = n) :
    tallyOn (kcell (c, o)) (launchCredit (Pipeline.owing O₀) 0 (kcell (c, o))) = (tallyAt (kcell (c, o)) () n : CellTallies nD τ sig Unit) := by
  unfold tallyAt; refine congrArg _ (Finsupp.ext fun u => ?_); cases u
  rw [Pipeline.launchCredit_owing, Finsupp.single_eq_same, ← h, ← sum_owing c o debts]
  rfl

theorem owed_bar : (debts.map fun e => if (none : Cell) = which e then howmuch e else 0).sum = 3 := by rfl
theorem owed_1 (k : Fin 3) : (debts.map fun e => if (some (1, k) : Cell) = which e then howmuch e else 0).sum = N := by
  fin_cases k <;> (simp [debts])
theorem owed_3 (k : Fin 3) : (debts.map fun e => if (some (3, k) : Cell) = which e then howmuch e else 0).sum = N := by
  fin_cases k <;> (simp [debts])

theorem creds_intro : (Pipeline.launchCred O₀ c : sProp 𝕄) ⊢ creds c := by
  unfold Pipeline.launchCred
  refine (BI.bigSep_subset (Finset.subset_univ (Finset.univ.map ⟨csem, csem_inj⟩))).trans ?_
  rw [bigSep_map, bigSep_opt, bigSep_x]
  show iprop(cred (tallyOn (kcell (c, none)) (launchCredit (Pipeline.owing O₀) 0 (kcell (c, none)))) ∗ _
    ∗ (cred (tallyOn (kcell (c, some (1, 0))) (launchCredit (Pipeline.owing O₀) 0 (kcell (c, some (1, 0)))))
      ∗ cred (tallyOn (kcell (c, some (1, 1))) (launchCredit (Pipeline.owing O₀) 0 (kcell (c, some (1, 1)))))
      ∗ cred (tallyOn (kcell (c, some (1, 2))) (launchCredit (Pipeline.owing O₀) 0 (kcell (c, some (1, 2)))))) ∗ _
    ∗ (cred (tallyOn (kcell (c, some (3, 0))) (launchCredit (Pipeline.owing O₀) 0 (kcell (c, some (3, 0)))))
      ∗ cred (tallyOn (kcell (c, some (3, 1))) (launchCredit (Pipeline.owing O₀) 0 (kcell (c, some (3, 1)))))
      ∗ cred (tallyOn (kcell (c, some (3, 2))) (launchCredit (Pipeline.owing O₀) 0 (kcell (c, some (3, 2))))))) ⊢ _
  rw [launch_at c none 3 owed_bar, launch_at c (some (1, 0)) N (owed_1 0), launch_at c (some (1, 1)) N (owed_1 1), launch_at c (some (1, 2)) N (owed_1 2),
    launch_at c (some (3, 0)) N (owed_3 0), launch_at c (some (3, 1)) N (owed_3 1), launch_at c (some (3, 2)) N (owed_3 2)]
  unfold creds
  iintro ⟨HB, -, H1, -, H3⟩
  isplitl [HB]; · iexact HB
  isplitl [H1] <;> iassumption

/-! ## The run -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' records
  iintro ⟨-, Hlev, Hcr, -, ⟨%K, ⟨HI, HR⟩, Hrest⟩⟩
  ihave Hc := (creds_intro (F := F) c) $$ Hcr
  imodintro
  isplitl
  · isplitr [Hc]
    · iexists K
      isplitl [HI HR Hlev]
      · isplitl [HI]; · iexact HI
        isplitl [HR]; · iexact HR
        iexact Hlev
      iexact Hrest
    iexact Hc
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = Φ₁ c from rfl, scopedRest0_eq, unscopedSems0_eq]
  unfold Φ₁ scratch zeros Pipeline.ownSems0
  iintro ⟨⟨HB, HX⟩, Hr⟩
  isplitl [HB]; · iexact HB
  isplitl [HX]; · iexact HX
  iexact Hr

theorem lv_stage (w : Fin cfg0.W) (s : Fin (cfg0.win w).nbuf) : lv ((c : Thread nD τ), SemLoc.dma ((cfg0.win w).sem s)) () ≤ 0 := by
  rw [lv_sem _ _ (SemLoc.dma ((cfg0.win w).sem s)) rfl]
  revert s
  fin_cases w <;> decide

theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 debts (lv_stage c w s) (by decide)
    · exact mayWait_of c _ 0 [] (lv_stage c w s) (by decide)

theorem share_eq (w : Fin cfg0.W) : (dats m ρ 0 c).share w = fullShare := by unfold Dat.share; split <;> rfl

def finalA (w : Fin cfg0.W) : Buf (Elt F) ((cfg0.win w).arr.view.loc (c : Thread nD τ)) := (dats m ρ 0 c).arrAt w cfg0.N

/-- The final states: each device's arrays at the contents computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the program of the four devices terminates under every weakly fair execution,
    each device's arrays at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run is as it was. -/
theorem finalA_in (w : Fin cfg0.W) (h : (cfg0.win w).isOut = false) : finalA m ρ c w = (s₀ m ρ).mem ((cfg0.win w).arr.view.loc (c : Thread nD τ)) :=
  (dats (F := F) m ρ 0 c).arrAt_in w h _

end Cert.KProof
-- ==== Proof.Same.lean ====
/-
The two programs of the kernel have one text: their tables of bodies are equal.
-/
module

public import proofs.«01_k».proof.Proof.Gen.Kernel
public import proofs.«01_k».proof.Proof.Gen.KernelIdeal

@[expose] public section

set_option maxRecDepth 16384

noncomputable section

namespace Cert.KProof

open Idealize.ShloMosaic

variable {F : FTy → Type} [FloatOps F]

/-- One body. -/
theorem body_same : Cert.Kernel.cc0_body (F := F) = Cert.KernelIdeal.cc0_body (F := F) := rfl

/-- One table of bodies. -/
theorem defs₀_same : Cert.Kernel.defs₀ (F := F) = Cert.KernelIdeal.defs₀ (F := F) := by
  funext p l a
  cases p with
  | tc =>
    match l, a with
    | ⟨0, _⟩, (t, s) =>
      unfold Cert.Kernel.defs₀ Cert.KernelIdeal.defs₀
      exact congrFun (congrFun (congrFun (congrFun (congrFun (congrFun (congrFun (congrFun (congrFun (congrFun (congrFun (congrFun (congrFun (congrFun
        (congrFun (congrFun (congrFun (congrFun (congrFun (congrFun (congrFun (congrFun (congrFun (congrFun body_same _) _) _) _) _) _) _) _) _) _) _) _)
          _) _) _) _) _) _) _) _) _) _) _) _
  | scScalar i => rfl
  | scVector i j => rfl

/-- One table, the pipeline's labels added. -/
theorem defs_same : Cert.Kernel.defs (F := F) = Cert.KernelIdeal.defs (F := F) := congrArg (Pipeline.defs Cert.KernelIdeal.pcfgs) defs₀_same

end Cert.KProof
-- ==== Proof.Soft.lean ====
/-
One row of attention over the extended reals: the weights divided by their sum before the product with the values, and
the division after it. With finite scores the two agree.
-/
module

public import Idealize.ShloMosaic.PureOps.Ideal.Laws
public import Mathlib.Algebra.BigOperators.Fin

@[expose] public section

noncomputable section

namespace Cert.KProof

open Idealize.ShloMosaic

/-- The number `s` is a real one. -/
def Real' (s : EReal) : Prop := ∃ r : ℝ, s = (r : EReal)

theorem real_mul {a b : EReal} (ha : Real' a) (hb : Real' b) : Real' (a * b) := by
  obtain ⟨x, rfl⟩ := ha; obtain ⟨y, rfl⟩ := hb; exact ⟨x * y, (EReal.coe_mul x y).symm⟩

theorem coe_sum {n : ℕ} (g : Fin n → ℝ) : ((∑ i, g i : ℝ) : EReal) = ∑ i, (g i : EReal) := by
  have h : ∀ t : Finset (Fin n), ((∑ i ∈ t, g i : ℝ) : EReal) = ∑ i ∈ t, (g i : EReal) := by
    intro t
    induction t using Finset.induction_on with
    | empty => simp
    | insert a t ha ih => rw [Finset.sum_insert ha, Finset.sum_insert ha, EReal.coe_add, ih]
  exact h _

theorem real_sum {n : ℕ} {f : Fin n → EReal} (h : ∀ i, Real' (f i)) : Real' (∑ i, f i) := by
  choose g hg using h
  exact ⟨∑ i, g i, by simp only [hg]; exact (coe_sum g).symm⟩

/-- What the reductions to a maximum begin from, and the factor of the scores. -/
abbrev low : EReal := Ideal.ofBits .f32 0xFF800000#32
abbrev eighth : EReal := Ideal.ofBits .f32 0x3E000000#32

theorem low_eq : low = ⊥ := by
  simp [low, Ideal.ofBits, Ideal.ieee]

theorem real_eighth : Real' eighth := by
  unfold eighth Ideal.ofBits Ideal.ieee
  simp only [Real']
  rw [if_neg (by decide), if_neg (by decide)]
  exact ⟨_, rfl⟩

/-- The greatest of a row. -/
def rowMax {n : ℕ} (s : Fin n → EReal) : EReal := Finset.fold max low s Finset.univ

/-- Of real numbers, it is one of them. -/
theorem rowMax_mem {n : ℕ} (hn : 0 < n) (s : Fin n → EReal) (h : ∀ j, Real' (s j)) : ∃ j, rowMax s = s j := by
  haveI : Nonempty (Fin n) := ⟨⟨0, hn⟩⟩
  obtain ⟨j, hj⟩ := exists_eq_ciSup_of_finite (f := s)
  refine ⟨j, ?_⟩
  unfold rowMax
  rw [low_eq, hj]
  apply le_antisymm
  · rw [Finset.fold_max_le]; exact ⟨bot_le, fun x _ => le_iSup s x⟩
  · rw [← hj, Finset.le_fold_max]; exact Or.inr ⟨j, Finset.mem_univ _, le_rfl⟩

/-- A row of attention with each weight divided by the weights' sum; -/
def softK {n : ℕ} (s v : Fin n → EReal) : EReal :=
  ∑ j, Ideal.div (Ideal.exp (s j - rowMax s)) (∑ j, Ideal.exp (s j - rowMax s)) * v j

/-- and with the product divided, both begun from what an earlier, empty part of the row leaves. -/
def softR {n : ℕ} (s v : Fin n → EReal) : EReal :=
  Ideal.div (0 * Ideal.exp (low - max low (rowMax s)) + ∑ j, v j * Ideal.exp (s j - max low (rowMax s)))
    (0 * Ideal.exp (low - max low (rowMax s)) + ∑ j, Ideal.exp (s j - max low (rowMax s)))

theorem sum_mul_real {n : ℕ} (f : Fin n → EReal) (r : ℝ) (hr : 0 ≤ r) : (∑ j, f j) * (r : EReal) = ∑ j, f j * (r : EReal) := by
  have h : ∀ t : Finset (Fin n), (∑ j ∈ t, f j) * (r : EReal) = ∑ j ∈ t, f j * (r : EReal) := by
    intro t
    induction t using Finset.induction_on with
    | empty => simp
    | insert a t ha ih =>
      rw [Finset.sum_insert ha, Finset.sum_insert ha, ← ih]
      exact EReal.right_distrib_of_nonneg_of_ne_top (by exact_mod_cast hr) (EReal.coe_ne_top _) _ _
  exact h _

/-- With real scores the two are equal, whatever the values are. -/
theorem soft_eq {n : ℕ} (hn : 0 < n) (s v : Fin n → EReal) (h : ∀ j, Real' (s j)) : softK s v = softR s v := by
  obtain ⟨j₀, hj₀⟩ := rowMax_mem hn s h
  unfold softK softR
  rw [low_eq, max_eq_right bot_le, EReal.bot_sub, Ideal.exp_bot, mul_zero, zero_add, zero_add, hj₀]
  choose g hg using h
  have he : ∀ j, Ideal.exp (s j - s j₀) = ((Real.exp (g j - g j₀) : ℝ) : EReal) := fun j => by
    rw [hg j, hg j₀, ← EReal.coe_sub, Ideal.exp_coe]
  simp only [he]
  rw [← coe_sum]
  have hpos : 0 < ∑ j, Real.exp (g j - g j₀) := Finset.sum_pos (fun j _ => Real.exp_pos _) ⟨⟨0, hn⟩, Finset.mem_univ _⟩
  simp only [Ideal.div_coe hpos.ne']
  rw [sum_mul_real _ _ (one_div_nonneg.mpr hpos.le)]
  refine Finset.sum_congr rfl fun j _ => ?_
  rw [mul_right_comm, mul_comm (v j)]

end Cert.KProof
end
-- ==== Proof.KernelAt.lean ====
/-
The kernel's result at an index, over the extended reals.
-/
module

public import proofs.«01_k».proof.Proof.Run
public import proofs.«01_k».proof.Proof.Soft
public import Idealize.ShloMosaic.Lib.Pointwise

@[expose] public section

set_option maxRecDepth 16384

noncomputable section

namespace Cert.KProof

open Cert.KernelIdeal Cert.KernelIdeal.Gen
open Idealize.ShloMosaic
open Idealize.ShloMosaic.TcCoe

theorem proj_at (w : FVec Ideal S512x512 .bf16) (x : FVec Ideal S256x512 .bf16) (i : Fin 256) (j : Fin 512) :
    proj w x (ix2 i j) = ∑ u : Fin 512, x (ix2 i u) * w (ix2 u j) := by
  pointwise [proj]

theorem oproj_at (w : FVec Ideal S512x512 .bf16) (x : FVec Ideal S256x512 .bf16) (i : Fin 256) (j : Fin 512) :
    oproj w x (ix2 i j) = ∑ u : Fin 512, x (ix2 i u) * w (ix2 u j) := by
  pointwise [oproj]

theorem tokens_at (x : Vec Ideal S2x128x512 .f32) (b : Fin 2) (i : Fin 128) (j : Fin 512) :
    tokens x (ix2 ⟨b.val * 128 + i.val, by omega⟩ j) = x (ix3 b i j) := by
  pointwise [tokens]

theorem wt_at (x : Vec Ideal S512x512 .f32) (i : Fin 512) (j : Fin 512) : wt x (ix2 i j) = x (ix2 i j) := by
  pointwise [wt]

/-- One head of one sequence: each of its rows is the attention of that row's scores. -/
theorem headOf_at (q k v : FVec Ideal S128x64 .bf16) (i : Fin 128) (d : Fin 64) :
    headOf q k v (ix2 i d) = softK (fun j : Fin 128 => (∑ t : Fin 64, q (ix2 i t) * k (ix2 j t)) * eighth) (fun j => v (ix2 j d)) := by
  unfold softK rowMax
  pointwise [headOf, prob, expo, scores]

theorem slice_at (q : FVec Ideal S256x512 .bf16) (p : Fin 2 × Fin 8) (i : Fin 128) (d : Fin 64) :
    extractStridedSlice S128x64 (org p) q (org_slices p) (ix2 i d)
      = q (ix2 ⟨p.1.val * 128 + i.val, by omega⟩ ⟨p.2.val * 64 + d.val, by omega⟩) := by
  pointwise
  exact congrArg q (by congr 1 <;> apply Fin.ext <;> simp [org, mul_comm])

theorem addTo_at (q : FVec Ideal S256x512 .f32) (p : FVec Ideal S256x512 .bf16) (i : Fin 256) (j : Fin 512) :
    addTo q (lift3 p) (ix2 i j) = q (ix2 i j) + p (ix2 i j) := by
  pointwise [addTo, lift3, flat]

/-- The attention at row `i` of sequence `b` and lane `d` of head `h`. -/
theorem attn_at (q k v : FVec Ideal S256x512 .bf16) (b : Fin 2) (i : Fin 128) (h : Fin 8) (d : Fin 64) :
    attn q k v (ix2 ⟨b.val * 128 + i.val, by omega⟩ ⟨h.val * 64 + d.val, by omega⟩)
      = softK (fun j : Fin 128 => (∑ t : Fin 64, q (ix2 ⟨b.val * 128 + i.val, by omega⟩ ⟨h.val * 64 + t.val, by omega⟩)
          * k (ix2 ⟨b.val * 128 + j.val, by omega⟩ ⟨h.val * 64 + t.val, by omega⟩)) * eighth)
        (fun j => v (ix2 ⟨b.val * 128 + j.val, by omega⟩ ⟨h.val * 64 + d.val, by omega⟩)) := by
  have e : attn q k v (ix2 ⟨b.val * 128 + i.val, by omega⟩ ⟨h.val * 64 + d.val, by omega⟩) = head q k v (b, h) (ix2 i d) := by
    have h1 : (⟨(b.val * 128 + i.val) / 128, by omega⟩ : Fin 2) = b := Fin.ext (by simp only []; omega)
    have h2 : (⟨(h.val * 64 + d.val) / 64, by omega⟩ : Fin 8) = h := Fin.ext (by simp only []; omega)
    have h3 : (⟨(b.val * 128 + i.val) % 128, by omega⟩ : Fin 128) = i := Fin.ext (by simp only []; omega)
    have h4 : (⟨(h.val * 64 + d.val) % 64, by omega⟩ : Fin 64) = d := Fin.ext (by simp only []; omega)
    have g : attn q k v (ix2 ⟨b.val * 128 + i.val, by omega⟩ ⟨h.val * 64 + d.val, by omega⟩)
        = head q k v (⟨(b.val * 128 + i.val) / 128, by omega⟩, ⟨(h.val * 64 + d.val) / 64, by omega⟩)
          (ix2 ⟨(b.val * 128 + i.val) % 128, by omega⟩ ⟨(h.val * 64 + d.val) % 64, by omega⟩) := by
      unfold attn
      refine congrArg (head q k v _) (funext fun a => ?_)
      revert a
      exact Fin.forall_fin_two.mpr ⟨rfl, rfl⟩
    rw [g, h1, h2, h3, h4]
  rw [e]
  unfold head
  rw [headOf_at]
  simp only [slice_at]

variable (m : (ℓ : Loc nD τ sig) → Buf (Elt Ideal) ℓ) (ρ : Dev nD → PrngReg) (c : Dev nD)

/-! ## The arrays a device holds, and that a staged block is its array -/

def xA : S2x128x512.Idx → EReal := m ((c.tc : Thread nD τ).loc main_arg0)
def qA : S512x512.Idx → EReal := m ((c.tc : Thread nD τ).loc main_arg1)
def kA : S512x512.Idx → EReal := m ((c.tc : Thread nD τ).loc main_arg2)
def vA : S512x512.Idx → EReal := m ((c.tc : Thread nD τ).loc main_arg3)
def oA : S512x512.Idx → EReal := m ((c.tc : Thread nD τ).loc main_arg4)

theorem blk_emb (w : Fin cfg0.W) (y : ((cfg0.win w).xblock (cfg0.grid.coords (0 : Fin 1))).Idx) (a : Fin (cfg0.win w).shape.rank) :
    (((cfg0.win w).rect (0 : Fin 1)).emb y a : Nat) = y a :=
  Pipeline.Window.rect_emb_val_of_index_zero _ _ a (by fin_cases w <;> rfl) y

theorem stgx_eq : stgx m ρ c = xA m c := by
  funext y
  exact congrArg (m ((c.tc : Thread nD τ).loc main_arg0)) (funext fun a => Fin.ext (blk_emb 0 y a))
theorem stgq_eq : stgq m ρ c = qA m c := by
  funext y
  exact congrArg (m ((c.tc : Thread nD τ).loc main_arg1)) (funext fun a => Fin.ext (blk_emb 1 y a))
theorem stgo_eq : stgo m ρ c = oA m c := by
  funext y
  exact congrArg (m ((c.tc : Thread nD τ).loc main_arg4)) (funext fun a => Fin.ext (blk_emb 2 y a))
theorem stgk_eq : stgk m ρ c = kA m c := by
  funext y
  exact congrArg (m ((c.tc : Thread nD τ).loc main_arg2)) (funext fun a => Fin.ext (blk_emb 3 y a))
theorem stgv_eq : stgv m ρ c = vA m c := by
  funext y
  exact congrArg (m ((c.tc : Thread nD τ).loc main_arg3)) (funext fun a => Fin.ext (blk_emb 4 y a))

/-- The result array ends at what the body left in its staging buffer. -/
theorem final_eq : finalA m ρ c 5 = outAt m ρ c := by
  funext y
  have h := Pipeline.Dat.arrAt_emb_eq_flushed (dats m ρ 0 c) 5 (fun t t' _ _ h => absurd (Subsingleton.elim (α := Fin 1) t t') h) (0 : Fin 1) rfl y
  have e : ((cfg0.win 5).blk (0 : Fin 1)).view.emb y = y := funext fun a => Fin.ext (blk_emb 5 y a)
  rw [e] at h
  exact h

/-! ## The result -/

/-- Device `c`'s heads on device `e`'s tokens, from the arrays the two hold. -/
theorem att_at (e : Dev nD) (b : Fin 2) (i : Fin 128) (h : Fin 8) (d : Fin 64) :
    att m ρ c e (ix2 ⟨b.val * 128 + i.val, by omega⟩ ⟨h.val * 64 + d.val, by omega⟩)
      = softK (fun j : Fin 128 => (∑ t : Fin 64,
          (∑ u : Fin 512, xA m e (ix3 b i u)
            * qA m c (ix2 u ⟨h.val * 64 + t.val, by omega⟩))
          * (∑ u : Fin 512, xA m e (ix3 b j u)
            * kA m c (ix2 u ⟨h.val * 64 + t.val, by omega⟩))) * eighth)
        (fun j => ∑ u : Fin 512, xA m e (ix3 b j u)
            * vA m c (ix2 u ⟨h.val * 64 + d.val, by omega⟩)) := by
  unfold att xb
  rw [stgx_eq, stgq_eq, stgk_eq, stgv_eq, attn_at]
  simp only [proj_at, tokens_at, wt_at]

/-- Each device's partial, summed over the devices in the order the kernel takes them, is the sum over all. -/
theorem sum_up (f : Dev nD → EReal) : f c + f (up c 0) + f (up c 2) + f (up c 1) = ∑ e : Dev nD, f e := by
  rw [show ∑ e : Dev nD, f e = f 0 + f 1 + f 2 + f 3 from Fin.sum_univ_four f]
  fin_cases c
  · show f 0 + f 1 + f 3 + f 2 = _
    abel
  · show f 1 + f 2 + f 0 + f 3 = _
    abel
  · show f 2 + f 3 + f 1 + f 0 = _
    abel
  · show f 3 + f 0 + f 2 + f 1 = _
    abel

/-- The kernel's result on device `c`: over the devices, their heads' attention of its tokens times their rows of the output weights. -/
theorem outAt_at (b : Fin 2) (i : Fin 128) (d : Fin 512) :
    (outAt m ρ c : Vec Ideal S2x128x512 .f32) (ix3 b i d)
      = ∑ e : Dev nD, ∑ k : Fin 512, att m ρ e c (ix2 ⟨b.val * 128 + i.val, by omega⟩ k)
          * oA m e (ix2 k d) := by
  have cut : ∀ p : FVec Ideal S256x512 .f32, shapeCast S2x128x512 p shapeCasts_S256x512_S2x128x512 (ix3 b i d)
      = p (ix2 ⟨b.val * 128 + i.val, by omega⟩ d) := fun p => by pointwise
  have hf : ∀ e : Dev nD, full m ρ e c (ix2 ⟨b.val * 128 + i.val, by omega⟩ d)
      = ∑ k : Fin 512, att m ρ e c (ix2 ⟨b.val * 128 + i.val, by omega⟩ k)
          * oA m e (ix2 k d) := fun e => by
    unfold full
    rw [stgo_eq, oproj_at]
    simp only [wt_at]
  unfold outAt
  rw [cut, addTo_at, addTo_at, addTo_at]
  have hp : ∀ e : Dev nD, part m ρ e c (ix2 ⟨b.val * 128 + i.val, by omega⟩ d) = full m ρ e c (ix2 ⟨b.val * 128 + i.val, by omega⟩ d) := fun _ => rfl
  simp only [hp, hf]
  exact sum_up c fun e => ∑ k : Fin 512, att m ρ e c (ix2 ⟨b.val * 128 + i.val, by omega⟩ k)
          * oA m e (ix2 k d)

end Cert.KProof
end
-- ==== Proof.RefAt.lean ====
/-
The reference's result at an index, over the extended reals: its term named in stages, each read at its coordinates.
-/
module

public import proofs.«01_k».proof.Proof.Gen.ReferenceIdeal
public import proofs.«01_k».proof.Proof.Gen.ReferenceIdeal.Run
public import proofs.«01_k».proof.Proof.Soft
public import Idealize.ShloMosaic.Lib.Pointwise

@[expose] public section

set_option maxRecDepth 16384

noncomputable section

namespace Cert.KProof

open Cert.ReferenceIdeal Cert.ReferenceIdeal.Gen
open Idealize.ShloMosaic

/-- A projection, by heads. -/
def rproj (x : FVec Ideal S8x128x512 .f32) (w : FVec Ideal S512x2048 .f32) : FVec Ideal S8x128x32x64 .f32 :=
  shapeCast _ (Host.dotGeneral dot_S8x128x512_S512x2048_S8x128x2048_2_0_01_1_n_n none x w) shapeCasts_S8x128x2048_S8x128x32x64

/-- The scaled scores. -/
def rscores (q k : FVec Ideal S8x128x32x64 .f32) : FVec Ideal S8x32x128x128 .f32 :=
  mulf (Host.dotGeneral dot_S8x128x32x64_S8x128x32x64_S8x32x128x128_3_3_1_1_02_02 none q k) (broadcastInDim S8x32x128x128 ![] bcast_S_S8x32x128x128 (constant S_ .f32 0x3E000000#32))

/-- The rows' maxima, among them and before them. -/
def rtop (s : FVec Ideal S8x32x128x128 .f32) : FVec Ideal S8x32x128 .f32 :=
  Host.reduce FloatOps.maximumf s (constant S_ .f32 0xFF800000#32) reducesTo_S8x32x128x128_S8x32x128_d3 h_S_
def rmax (t : FVec Ideal S8x32x128 .f32) : FVec Ideal S8x32x128x1 .f32 :=
  maximumf (broadcastInDim S8x32x128x1 ![] bcast_S_S8x32x128x1 (constant S_ .f32 0xFF800000#32)) (broadcastInDim S8x32x128x1 ![0, 1, 2] bcast_S8x32x128_S8x32x128x1_0_1_2 t)

/-- The factor of what came before. -/
def ralpha (M : FVec Ideal S8x32x128x1 .f32) : FVec Ideal S8x32x128x1 .f32 :=
  Host.exp (subf (broadcastInDim S8x32x128x1 ![] bcast_S_S8x32x128x1 (constant S_ .f32 0xFF800000#32)) M)

/-- The exponentials. -/
def rexpo (s : FVec Ideal S8x32x128x128 .f32) (M : FVec Ideal S8x32x128x1 .f32) : FVec Ideal S8x32x128x128 .f32 :=
  Host.exp (subf s (broadcastInDim S8x32x128x128 ![0, 1, 2, 3] bcast_S8x32x128x1_S8x32x128x128_0_1_2_3 M))

/-- The values weighted by them, and their sums. -/
def rnum (v : FVec Ideal S8x128x32x64 .f32) (a : FVec Ideal S8x32x128x1 .f32) (e : FVec Ideal S8x32x128x128 .f32) : FVec Ideal S8x128x32x64 .f32 :=
  addf (mulf (broadcastInDim S8x128x32x64 ![] bcast_S_S8x128x32x64 (constant S_ .f32 0x00000000#32)) (broadcastInDim S8x128x32x64 ![0, 1, 2, 3] bcast_S8x128x32x1_S8x128x32x64_0_1_2_3 (transpose S8x128x32x1 [0, 2, 1, 3] a transposes_S8x32x128x1_S8x128x32x1_0_2_1_3))) (transpose S8x128x32x64 [0, 3, 1, 2] (Host.dotGeneral dot_S8x128x32x64_S8x32x128x128_S8x32x64x128_1_3_3_2_02_01 none v e) transposes_S8x32x64x128_S8x128x32x64_0_3_1_2)
def rden (a : FVec Ideal S8x32x128x1 .f32) (e : FVec Ideal S8x32x128x128 .f32) : FVec Ideal S8x32x128x1 .f32 :=
  addf (mulf (broadcastInDim S8x32x128x1 ![] bcast_S_S8x32x128x1 (constant S_ .f32 0x00000000#32)) a) (broadcastInDim S8x32x128x1 ![0, 1, 2] bcast_S8x32x128_S8x32x128x1_0_1_2 (Host.reduceAdd e (constant S_ .f32 0x00000000#32) reducesTo_S8x32x128x128_S8x32x128_d3 h_S_))

/-- The one divided by the other. -/
def rdiv (n : FVec Ideal S8x128x32x64 .f32) (d : FVec Ideal S8x32x128x1 .f32) : FVec Ideal S8x128x32x64 .f32 :=
  Host.divf n (broadcastInDim S8x128x32x64 ![0, 1, 2, 3] bcast_S8x128x32x1_S8x128x32x64_0_1_2_3 (transpose S8x128x32x1 [0, 2, 1, 3] d transposes_S8x32x128x1_S8x128x32x1_0_2_1_3))

/-- The attention. -/
def rattn (v : FVec Ideal S8x128x32x64 .f32) (s : FVec Ideal S8x32x128x128 .f32) : FVec Ideal S8x128x32x64 .f32 :=
  rdiv (rnum v (ralpha (rmax (rtop s))) (rexpo s (rmax (rtop s)))) (rden (ralpha (rmax (rtop s))) (rexpo s (rmax (rtop s))))

/-- The output projection. -/
def roproj (a : FVec Ideal S8x128x32x64 .f32) (wo : FVec Ideal S2048x512 .f32) : FVec Ideal S8x128x512 .f32 :=
  Host.dotGeneral dot_S8x128x2048_S2048x512_S8x128x512_2_0_01_1_n_n none (shapeCast _ a shapeCasts_S8x128x32x64_S8x128x2048) wo

/-- The reference. -/
def rout (x : FVec Ideal S8x128x512 .f32) (wq wk wv : FVec Ideal S512x2048 .f32) (wo : FVec Ideal S2048x512 .f32) : FVec Ideal S8x128x512 .f32 :=
  roproj (rattn (rproj x wv) (rscores (rproj x wq) (rproj x wk))) wo

/-- It is what the reference's run ends with. -/
theorem res_eq (m : (ℓ : Loc nD τ sig) → Buf (Elt Ideal) ℓ) (c : Dev nD) :
    Cert.ReferenceIdeal.Value.res_main_v34 m c = rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ## Each stage at its coordinates -/

theorem rproj_at (x w) (b : Fin 8) (i : Fin 128) (h : Fin 32) (d : Fin 64) :
    rproj x w (ix4 b i h d) = ∑ u : Fin 512, x (ix3 b i u) * w (ix2 u ⟨h.val * 64 + d.val, by omega⟩) := by
  pointwise [rproj]

theorem rscores_at (q k) (b : Fin 8) (h : Fin 32) (i j : Fin 128) :
    rscores q k (ix4 b h i j) = (∑ t : Fin 64, q (ix4 b i h t) * k (ix4 b j h t)) * eighth := by
  pointwise [rscores]

theorem rtop_at (s) (b : Fin 8) (h : Fin 32) (i : Fin 128) : rtop s (ix3 b h i) = rowMax fun j : Fin 128 => s (ix4 b h i j) := by
  unfold rowMax
  pointwise [rtop]

theorem rmax_at (t) (b : Fin 8) (h : Fin 32) (i : Fin 128) : rmax t (ix4 b h i 0) = max low (t (ix3 b h i)) := by
  pointwise [rmax]

theorem ralpha_at (M) (b : Fin 8) (h : Fin 32) (i : Fin 128) : ralpha M (ix4 b h i 0) = Ideal.exp (low - M (ix4 b h i 0)) := by
  pointwise [ralpha]

theorem rexpo_at (s M) (b : Fin 8) (h : Fin 32) (i j : Fin 128) : rexpo s M (ix4 b h i j) = Ideal.exp (s (ix4 b h i j) - M (ix4 b h i 0)) := by
  pointwise [rexpo]

theorem rnum_at (v a e) (b : Fin 8) (i : Fin 128) (h : Fin 32) (d : Fin 64) :
    rnum v a e (ix4 b i h d) = 0 * a (ix4 b h i 0) + ∑ j : Fin 128, v (ix4 b j h d) * e (ix4 b h i j) := by
  pointwise [rnum]

theorem rden_at (a e) (b : Fin 8) (h : Fin 32) (i : Fin 128) :
    rden a e (ix4 b h i 0) = 0 * a (ix4 b h i 0) + ∑ j : Fin 128, e (ix4 b h i j) := by
  pointwise [rden]

theorem rdiv_at (n d) (b : Fin 8) (i : Fin 128) (h : Fin 32) (t : Fin 64) : rdiv n d (ix4 b i h t) = Ideal.div (n (ix4 b i h t)) (d (ix4 b h i 0)) := by
  pointwise [rdiv]

/-- A head's row of the attention. -/
theorem rattn_at (v s) (b : Fin 8) (i : Fin 128) (h : Fin 32) (d : Fin 64) :
    rattn v s (ix4 b i h d) = softR (fun j : Fin 128 => s (ix4 b h i j)) (fun j => v (ix4 b j h d)) := by
  unfold rattn softR
  rw [rdiv_at, rnum_at, rden_at]
  simp only [rexpo_at, ralpha_at, rmax_at, rtop_at]

theorem roproj_at (a wo) (b : Fin 8) (i : Fin 128) (d : Fin 512) :
    roproj a wo (ix3 b i d) = ∑ k : Fin 2048, a (ix4 b i ⟨k.val / 64, by omega⟩ ⟨k.val % 64, by omega⟩) * wo (ix2 k d) := by
  pointwise [roproj]

end Cert.KProof
end
-- ==== Proof.Value.lean ====
/-
The kernel's result is the reference's: device by device, over the extended reals, where the tokens and the weights of
queries and keys are finite.
-/
module

public import proofs.«01_k».proof.Defs
public import proofs.«01_k».proof.Proof.KernelAt
public import proofs.«01_k».proof.Proof.RefAt
public import Idealize.ShloMosaic.Lib.Pipeline.ValueKit.Acc
public import Idealize.ShloMosaic.Lib.Layout

@[expose] public section

set_option maxRecDepth 16384

noncomputable section

namespace Cert.KProof

open Idealize.ShloMosaic

/-! ## Where a block's element is in the whole array -/

/-- The tokens' blocks, two sequences each; -/
theorem xblock_at {α : Type} (X : (⟨3, ![8, 128, 512]⟩ : Shape).Idx → α) (c : Fin 4) (b : Fin 2) (i : Fin 128) (u : Fin 512) :
    Layout.block ⟨3, ![2, 128, 512]⟩ ⟨3, ![8, 128, 512]⟩ 0 4 c X (by decide) (ix3 b i u) = X (ix3 ⟨c.val * 2 + b.val, by omega⟩ i u) := by
  refine congrArg X (funext fun a => Fin.ext ?_)
  fin_cases a <;> rfl

/-- the columns of the weights of queries, keys and values; -/
theorem wblock_at {α : Type} (W : (⟨2, ![512, 2048]⟩ : Shape).Idx → α) (c : Fin 4) (u l : Fin 512) :
    Layout.block ⟨2, ![512, 512]⟩ ⟨2, ![512, 2048]⟩ 1 4 c W (by decide) (ix2 u l) = W (ix2 u ⟨c.val * 512 + l.val, by omega⟩) := by
  refine congrArg W (funext fun a => Fin.ext ?_)
  fin_cases a <;> rfl

/-- the rows of the output weights. -/
theorem oblock_at {α : Type} (W : (⟨2, ![2048, 512]⟩ : Shape).Idx → α) (c : Fin 4) (l d : Fin 512) :
    Layout.block ⟨2, ![512, 512]⟩ ⟨2, ![2048, 512]⟩ 0 4 c W (by decide) (ix2 l d) = W (ix2 ⟨c.val * 512 + l.val, by omega⟩ d) := by
  refine congrArg W (funext fun a => Fin.ext ?_)
  fin_cases a <;> rfl

/-! ## The precondition -/

instance preFacts : Cert.Pre_finite_KernelIdeal.Facts := ⟨by decide, by decide⟩
instance preFactsR : Cert.Pre_finite_ReferenceIdeal.Facts := ⟨by decide, by decide, by decide⟩

/-- An extended real whose magnitude is below the infinity is a real. -/
theorem real_of_lt (a : EReal) (h : Ideal.cmp .olt (max a (-a)) (Ideal.ofBits .f32 0x7F800000#32) = 1#1) : Real' a := by
  have ht : Ideal.ofBits .f32 0x7F800000#32 = ⊤ := by simp [Ideal.ofBits, Ideal.ieee]
  rw [ht] at h
  induction a using EReal.rec with
  | bot => simp [Ideal.cmp] at h
  | top => simp [Ideal.cmp] at h
  | coe r => exact ⟨r, rfl⟩

section
open Cert.KernelIdeal

variable (m : (ℓ : Loc nD τ sig) → Buf (Elt Ideal) ℓ) (ρ : Dev nD → PrngReg)

/-- Under the precondition each device's tokens and weights of queries and keys are real. -/
theorem pre_real (h : Cert.Pre_KernelIdeal_finite_KernelIdeal m) (c : Dev nD) :
    (∀ y, Real' (xA m c y)) ∧ (∀ y, Real' (qA m c y)) ∧ (∀ y, Real' (kA m c y)) :=
  ⟨fun y => real_of_lt _ (congrFun (h c).1 y), fun y => real_of_lt _ (congrFun (h c).2.1 y), fun y => real_of_lt _ (congrFun (h c).2.2 y)⟩

variable (X : (⟨3, ![8, 128, 512]⟩ : Shape).Idx → EReal) (Wq Wk Wv : (⟨2, ![512, 2048]⟩ : Shape).Idx → EReal) (Wo : (⟨2, ![2048, 512]⟩ : Shape).Idx → EReal)

/-- Head `h` of device `c` on device `e`'s tokens is head `8 c + h` of the reference on the sequences `2 e` and `2 e + 1`. -/
theorem att_eq (h : Cert.Pre_KernelIdeal_finite_KernelIdeal m)
    (hx : ∀ c : Dev nD, xA m c = Layout.block ⟨3, ![2, 128, 512]⟩ ⟨3, ![8, 128, 512]⟩ 0 4 c X (by decide))
    (hq : ∀ c : Dev nD, qA m c = Layout.block ⟨2, ![512, 512]⟩ ⟨2, ![512, 2048]⟩ 1 4 c Wq (by decide))
    (hk : ∀ c : Dev nD, kA m c = Layout.block ⟨2, ![512, 512]⟩ ⟨2, ![512, 2048]⟩ 1 4 c Wk (by decide))
    (hv : ∀ c : Dev nD, vA m c = Layout.block ⟨2, ![512, 512]⟩ ⟨2, ![512, 2048]⟩ 1 4 c Wv (by decide))
    (c e : Fin 4) (b : Fin 2) (i : Fin 128) (l : Fin 8) (d : Fin 64) :
    att m ρ c e (ix2 ⟨b.val * 128 + i.val, by omega⟩ ⟨l.val * 64 + d.val, by omega⟩)
      = rattn (rproj X Wv) (rscores (rproj X Wq) (rproj X Wk))
          (ix4 ⟨e.val * 2 + b.val, by omega⟩ i ⟨c.val * 8 + l.val, by omega⟩ d) := by
  rw [att_at, soft_eq (by decide), rattn_at]
  · simp only [rscores_at, rproj_at, hx, hq, hk, hv, xblock_at, wblock_at]
    have col : ∀ t : Fin 64, (⟨c.val * 512 + (l.val * 64 + t.val), by omega⟩ : Fin 2048)
        = ⟨(c.val * 8 + l.val) * 64 + t.val, by omega⟩ := fun t => Fin.ext (by simp only []; omega)
    simp only [col]
  · intro j
    obtain ⟨rx, rq, rk⟩ := pre_real m h c
    obtain ⟨rx', -, -⟩ := pre_real m h e
    exact real_mul (real_sum fun t => real_mul (real_sum fun u => real_mul (rx' _) (rq _)) (real_sum fun u => real_mul (rx' _) (rk _))) real_eighth

/-- A lane of a device's 512 is a lane of one of its eight heads. -/
theorem lane_split (k : Fin 512) : ∃ (l : Fin 8) (t : Fin 64), k = ⟨l.val * 64 + t.val, by omega⟩ :=
  ⟨⟨k.val / 64, by omega⟩, ⟨k.val % 64, by omega⟩, Fin.ext (by simp only []; omega)⟩

/-- So the kernel's result on device `c` is its block of the reference's. -/
theorem out_eq (h : Cert.Pre_KernelIdeal_finite_KernelIdeal m)
    (hx : ∀ c : Dev nD, xA m c = Layout.block ⟨3, ![2, 128, 512]⟩ ⟨3, ![8, 128, 512]⟩ 0 4 c X (by decide))
    (hq : ∀ c : Dev nD, qA m c = Layout.block ⟨2, ![512, 512]⟩ ⟨2, ![512, 2048]⟩ 1 4 c Wq (by decide))
    (hk : ∀ c : Dev nD, kA m c = Layout.block ⟨2, ![512, 512]⟩ ⟨2, ![512, 2048]⟩ 1 4 c Wk (by decide))
    (hv : ∀ c : Dev nD, vA m c = Layout.block ⟨2, ![512, 512]⟩ ⟨2, ![512, 2048]⟩ 1 4 c Wv (by decide))
    (ho : ∀ c : Dev nD, oA m c = Layout.block ⟨2, ![512, 512]⟩ ⟨2, ![2048, 512]⟩ 0 4 c Wo (by decide)) (c : Fin 4) :
    (outAt m ρ c : Vec Ideal S2x128x512 .f32) = Layout.block ⟨3, ![2, 128, 512]⟩ ⟨3, ![8, 128, 512]⟩ 0 4 c (rout X Wq Wk Wv Wo) (by decide) := by
  funext (j : (⟨3, ![2, 128, 512]⟩ : Shape).Idx)
  obtain ⟨b, i, d, rfl⟩ : ∃ (b : Fin 2) (i : Fin 128) (d : Fin 512), j = ix3 b i d := ⟨j 0, j 1, j 2, eq_ix3 j⟩
  rw [xblock_at]
  refine (outAt_at m ρ c b i d).trans ?_
  unfold rout
  rw [roproj_at]
  refine Fin.sum_mul_add_congr (S := 4) (n := 512) fun e k hl => ?_
  obtain ⟨l, t, rfl⟩ := lane_split k
  rw [att_eq m ρ X Wq Wk Wv h hx hq hk hv, ho, oblock_at]
  have h1 : (⟨(e.val * 512 + (l.val * 64 + t.val)) / 64, by omega⟩ : Fin 32) = ⟨e.val * 8 + l.val, by omega⟩ := Fin.ext (by simp only []; omega)
  have h2 : (⟨(e.val * 512 + (l.val * 64 + t.val)) % 64, by omega⟩ : Fin 64) = t := Fin.ext (by simp only []; omega)
  rw [h1, h2]

end

end Cert.KProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Run
public import proofs.«01_k».proof.Proof.Same
public import proofs.«01_k».proof.Proof.Value

@[expose] public section

noncomputable section

namespace Cert.Proof

open Idealize.ShloMosaic Idealize.SL.Sem Cert.KernelIdeal Cert.KProof

/-- For any float values: the program terminates with the arguments unchanged, the result at what was computed, and every counter at zero. -/
theorem ends {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v1) = finalA m ρ c 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1 c 5, (h.1 c 0).trans (finalA_in m ρ c 0 rfl), (h.1 c 1).trans (finalA_in m ρ c 1 rfl),
    (h.1 c 3).trans (finalA_in m ρ c 3 rfl), (h.1 c 4).trans (finalA_in m ρ c 4 rfl), (h.1 c 2).trans (finalA_in m ρ c 2 rfl)⟩, h.2⟩) (run_main m ρ)

/-- Its frame, for any float values. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (ends m ρ)

/-- The kernel terminates, its arguments unchanged and every counter at zero. -/
theorem frame_kernel : Cert.quiescent_Kernel := by
  intro m ρ _
  rw [defs_same]
  exact frame_any (F := Bits) m ρ

/-- So does it over the extended reals. -/
theorem frame_kernelIdeal : Cert.quiescent_KernelIdeal := fun m ρ _ => frame_any (F := Ideal) m ρ

/-- The reference terminates, its arguments unchanged and every counter at zero. -/
theorem frame_referenceIdeal : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- The kernel over the extended reals ends with each device's block of what the reference ends with, where the tokens and
    the weights of queries and keys are finite. -/
theorem algebraic : Cert.algebraic_KernelIdeal_ReferenceIdeal_pre_finite_KernelIdeal := by
  intro m g m' g' hpre hm
  refine ⟨Cert.ReferenceIdeal.Value.res_main_v34 m' 0, ?_, ?_⟩
  · refine (θ_run defs _ _).mono (fun r h c => ⟨?_, (h.1 c).2⟩) (ends (F := Ideal) m g)
    refine (h.1 c).1.trans ?_
    rw [final_eq m g c, Cert.KProof.res_eq]
    exact out_eq m g _ _ _ _ _ hpre (fun c => (hm c).1) (fun c => (hm c).2.1) (fun c => (hm c).2.2.1) (fun c => (hm c).2.2.2.1) (fun c => (hm c).2.2.2.2) c
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, preFacts, preFactsR,
  frame_kernel, frame_kernelIdeal, fun m ρ _ => frame_any (F := Ideal) m ρ, frame_referenceIdeal, fun m ρ _ => frame_referenceIdeal m ρ trivial,
  trivial, algebraic⟩

end Cert.Proof

end
